-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_indices_in_range_and_finite [hPre_indices_in_range_and_finite : Cert.Pre_indices_in_range_and_finite.Facts] (m : (ℓ : Loc Cert.KernelIdeal.nD Cert.KernelIdeal.τ Cert.KernelIdeal.sig) → Buf (Elt Ideal) ℓ) : Prop :=
  ∀ c : Dev Cert.KernelIdeal.nD,
    (Cert.Pre_indices_in_range_and_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_indices_in_range_and_finite [hPre_indices_in_range_and_finite : Cert.Pre_indices_in_range_and_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_indices_in_range_and_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ r.2.sem = fun _ => 0)

def quiescent_KernelIdeal_pre_indices_in_range_and_finite [hKernelIdeal : Cert.KernelIdeal.Facts] [hPre_indices_in_range_and_finite : Cert.Pre_indices_in_range_and_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_indices_in_range_and_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))
      ∧ r.2.sem = fun _ => 0)

def quiescent_ReferenceIdeal_pre_indices_in_range_and_finite [hReferenceIdeal : Cert.ReferenceIdeal.Facts] [hPre_indices_in_range_and_finite : Cert.Pre_indices_in_range_and_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_indices_in_range_and_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))
      ∧ r.2.sem = fun _ => 0)

def preserves_Kernel_KernelIdeal : Prop :=
  True

def algebraic_KernelIdeal_ReferenceIdeal_pre_indices_in_range_and_finite [hKernelIdeal : Cert.KernelIdeal.Facts] [hReferenceIdeal : Cert.ReferenceIdeal.Facts] [hPre_indices_in_range_and_finite : Cert.Pre_indices_in_range_and_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_indices_in_range_and_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v13_0)) (v1 : (c : Dev Cert.KernelIdeal.nD) → Buf (Elt Ideal) ((c.tc : Thread Cert.KernelIdeal.nD Cert.KernelIdeal.τ).loc Cert.KernelIdeal.main_v14)) (v2 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13_0) = v0 c
          ∧ r.2.mem ((c.tc : Thread Cert.KernelIdeal.nD Cert.KernelIdeal.τ).loc Cert.KernelIdeal.main_v14) = v1 c
          ∧ r.2.mem ((c.tc : Thread Cert.KernelIdeal.nD Cert.KernelIdeal.τ).loc Cert.KernelIdeal.main_v15) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_v26) = v1 c
          ∧ r.2.mem ((c.tc : Thread Cert.ReferenceIdeal.nD Cert.ReferenceIdeal.τ).loc Cert.ReferenceIdeal.main_v31) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_indices_in_range_and_finite : Cert.Pre_indices_in_range_and_finite.Facts),
    quiescent_Kernel (hKernel := hKernel)
    ∧ quiescent_KernelIdeal (hKernelIdeal := hKernelIdeal)
    ∧ quiescent_KernelIdeal_pre_indices_in_range_and_finite (hKernelIdeal := hKernelIdeal) (hPre_indices_in_range_and_finite := hPre_indices_in_range_and_finite)
    ∧ quiescent_ReferenceIdeal (hReferenceIdeal := hReferenceIdeal)
    ∧ quiescent_ReferenceIdeal_pre_indices_in_range_and_finite (hReferenceIdeal := hReferenceIdeal) (hPre_indices_in_range_and_finite := hPre_indices_in_range_and_finite)
    ∧ preserves_Kernel_KernelIdeal
    ∧ algebraic_KernelIdeal_ReferenceIdeal_pre_indices_in_range_and_finite (hKernelIdeal := hKernelIdeal) (hReferenceIdeal := hReferenceIdeal) (hPre_indices_in_range_and_finite := hPre_indices_in_range_and_finite)
-- ==== Pre_indices_in_range_and_finite.lean ====
abbrev S1024 : Shape := ⟨1, ![1024]⟩
abbrev S5x10000x1000 : Shape := ⟨3, ![5, 10000, 1000]⟩
abbrev S10000x128 : Shape := ⟨2, ![10000, 128]⟩
abbrev S1000x128 : Shape := ⟨2, ![1000, 128]⟩
abbrev S5x128x64 : Shape := ⟨3, ![5, 128, 64]⟩
abbrev S64 : Shape := ⟨1, ![64]⟩
abbrev S5x64x32 : Shape := ⟨3, ![5, 64, 32]⟩
abbrev S5x32x32 : Shape := ⟨3, ![5, 32, 32]⟩
abbrev S_ : Shape := ⟨0, ![]⟩

class Facts : Prop where
  bcast_S_S1024 : S_.BroadcastsInDim S1024 (![] : Fin 0 → Fin S1024.rank)
  reducesTo_S1024_S_d0 : S1024.ReducesTo [0] S_
  h_S_ : 0 < S_.numel
  bcast_S_S5x10000x1000 : S_.BroadcastsInDim S5x10000x1000 (![] : Fin 0 → Fin S5x10000x1000.rank)
  reducesTo_S5x10000x1000_S_d0_1_2 : S5x10000x1000.ReducesTo [0, 1, 2] S_
  bcast_S_S1000x128 : S_.BroadcastsInDim S1000x128 (![] : Fin 0 → Fin S1000x128.rank)
  reducesTo_S1000x128_S_d0_1 : S1000x128.ReducesTo [0, 1] S_
  bcast_S_S5x128x64 : S_.BroadcastsInDim S5x128x64 (![] : Fin 0 → Fin S5x128x64.rank)
  reducesTo_S5x128x64_S_d0_1_2 : S5x128x64.ReducesTo [0, 1, 2] S_

variable [Facts]

def fn_part1 {F : FTy → Type} [FloatOps F] (main_arg5 : FVec F S1000x128 .f32) (main_arg8 : FVec F S5x128x64 .f32) (main_v12 : IVec S_ 1) (main_v15 : IVec S5x10000x1000 1) (main_c_5 : IVec S_ 1) : IVec S_ 1 :=
  let main_v16 : IVec S_ 1 := (fun x v => Host.reduce IntOp.andi x v reducesTo_S5x10000x1000_S_d0_1_2 h_S_) main_v15 main_c_5
  let main_v17 : IVec S_ 1 := andi main_v12 main_v16
  let main_v18 : FVec F S1000x128 .f32 := Host.absf main_arg5
  let main_cst_6 : FVec F S_ .f32 := constant S_ .f32 0x7F800000#32
  let main_v19 : FVec F S1000x128 .f32 := broadcastInDim S1000x128 ![] bcast_S_S1000x128 main_cst_6
  let main_v20 : IVec S1000x128 1 := cmpf .olt main_v18 main_v19
  let main_c_7 : IVec S_ 1 := constantI S_ 1 1#1
  let main_v21 : IVec S_ 1 := (fun x v => Host.reduce IntOp.andi x v reducesTo_S1000x128_S_d0_1 h_S_) main_v20 main_c_7
  let main_v22 : IVec S_ 1 := andi main_v17 main_v21
  let main_v23 : FVec F S5x128x64 .f32 := Host.absf main_arg8
  let main_cst_8 : FVec F S_ .f32 := constant S_ .f32 0x7F800000#32
  let main_v24 : FVec F S5x128x64 .f32 := broadcastInDim S5x128x64 ![] bcast_S_S5x128x64 main_cst_8
  let main_v25 : IVec S5x128x64 1 := cmpf .olt main_v23 main_v24
  let main_c_9 : IVec S_ 1 := constantI S_ 1 1#1
  let main_v26 : IVec S_ 1 := (fun x v => Host.reduce IntOp.andi x v reducesTo_S5x128x64_S_d0_1_2 h_S_) main_v25 main_c_9
  let main_v27 : IVec S_ 1 := andi main_v22 main_v26
  main_v27

def fn {F : FTy → Type} [FloatOps F] (main_arg0 : IVec S1024 32) (main_arg1 : IVec S1024 32) (main_arg2 : IVec S1024 32) (main_arg3 : FVec F S5x10000x1000 .f32) (main_arg4 : FVec F S10000x128 .f32) (main_arg5 : FVec F S1000x128 .f32) (main_arg6 : FVec F S5x128x64 .f32) (main_arg7 : FVec F S64 .f32) (main_arg8 : FVec F S5x128x64 .f32) (main_arg9 : FVec F S64 .f32) (main_arg10 : FVec F S5x64x32 .f32) (main_arg11 : FVec F S5x64x32 .f32) (main_arg12 : FVec F S5x32x32 .f32) : IVec S_ 1 :=
  let main_c : IVec S_ 32 := constantI S_ 32 0#32
  let main_v0 : IVec S1024 32 := broadcastInDim S1024 ![] bcast_S_S1024 main_c
  let main_v1 : IVec S1024 1 := cmpi .sge main_arg0 main_v0
  let main_c_0 : IVec S_ 32 := constantI S_ 32 10000#32
  let main_v2 : IVec S1024 32 := broadcastInDim S1024 ![] bcast_S_S1024 main_c_0
  let main_v3 : IVec S1024 1 := cmpi .slt main_arg0 main_v2
  let main_v4 : IVec S1024 1 := andi main_v1 main_v3
  let main_c_1 : IVec S_ 1 := constantI S_ 1 1#1
  let main_v5 : IVec S_ 1 := (fun x v => Host.reduce IntOp.andi x v reducesTo_S1024_S_d0 h_S_) main_v4 main_c_1
  let main_c_2 : IVec S_ 32 := constantI S_ 32 0#32
  let main_v6 : IVec S1024 32 := broadcastInDim S1024 ![] bcast_S_S1024 main_c_2
  let main_v7 : IVec S1024 1 := cmpi .sge main_arg1 main_v6
  let main_c_3 : IVec S_ 32 := constantI S_ 32 1000#32
  let main_v8 : IVec S1024 32 := broadcastInDim S1024 ![] bcast_S_S1024 main_c_3
  let main_v9 : IVec S1024 1 := cmpi .slt main_arg1 main_v8
  let main_v10 : IVec S1024 1 := andi main_v7 main_v9
  let main_c_4 : IVec S_ 1 := constantI S_ 1 1#1
  let main_v11 : IVec S_ 1 := (fun x v => Host.reduce IntOp.andi x v reducesTo_S1024_S_d0 h_S_) main_v10 main_c_4
  let main_v12 : IVec S_ 1 := andi main_v5 main_v11
  let main_v13 : FVec F S5x10000x1000 .f32 := Host.absf main_arg3
  let main_cst : FVec F S_ .f32 := constant S_ .f32 0x7F800000#32
  let main_v14 : FVec F S5x10000x1000 .f32 := broadcastInDim S5x10000x1000 ![] bcast_S_S5x10000x1000 main_cst
  let main_v15 : IVec S5x10000x1000 1 := cmpf .olt main_v13 main_v14
  let main_c_5 : IVec S_ 1 := constantI S_ 1 1#1
  fn_part1 (F := F) main_arg5 main_arg8 main_v12 main_v15 main_c_5
-- ==== Kernel.lean ====
abbrev S1024 : Shape := ⟨1, ![1024]⟩
abbrev S5x10000x1000 : Shape := ⟨3, ![5, 10000, 1000]⟩
abbrev S10000x128 : Shape := ⟨2, ![10000, 128]⟩
abbrev S1000x128 : Shape := ⟨2, ![1000, 128]⟩
abbrev S5x128x64 : Shape := ⟨3, ![5, 128, 64]⟩
abbrev S64 : Shape := ⟨1, ![64]⟩
abbrev S5x64x32 : Shape := ⟨3, ![5, 64, 32]⟩
abbrev S5x32x32 : Shape := ⟨3, ![5, 32, 32]⟩
abbrev S5x1000x10000 : Shape := ⟨3, ![5, 1000, 10000]⟩
abbrev S5x32x64 : Shape := ⟨3, ![5, 32, 64]⟩
abbrev S1x64 : Shape := ⟨2, ![1, 64]⟩
abbrev S64x1 : Shape := ⟨2, ![64, 1]⟩
abbrev S1024x1 : Shape := ⟨2, ![1024, 1]⟩
abbrev S25x64x200 : Shape := ⟨3, ![25, 64, 200]⟩
abbrev S1x128x64 : Shape := ⟨3, ![1, 128, 64]⟩
abbrev S128x64 : Shape := ⟨2, ![128, 64]⟩
abbrev S1000x64 : Shape := ⟨2, ![1000, 64]⟩
abbrev S64x1000 : Shape := ⟨2, ![64, 1000]⟩
abbrev S64x40 : Shape := ⟨2, ![64, 40]⟩
abbrev S1x64x40 : Shape := ⟨3, ![1, 64, 40]⟩
abbrev S32x10000 : Shape := ⟨2, ![32, 10000]⟩
abbrev S64x10000 : Shape := ⟨2, ![64, 10000]⟩
abbrev S1x40x10000 : Shape := ⟨3, ![1, 40, 10000]⟩
abbrev S1x64x200 : Shape := ⟨3, ![1, 64, 200]⟩
abbrev S40x10000 : Shape := ⟨2, ![40, 10000]⟩
abbrev S200x10000 : Shape := ⟨2, ![200, 10000]⟩
abbrev S200x128 : Shape := ⟨2, ![200, 128]⟩
abbrev S40x64 : Shape := ⟨2, ![40, 64]⟩
abbrev S40x128 : Shape := ⟨2, ![40, 128]⟩
abbrev S64x200 : Shape := ⟨2, ![64, 200]⟩
abbrev S1x32x64 : Shape := ⟨3, ![1, 32, 64]⟩
abbrev S32x64 : Shape := ⟨2, ![32, 64]⟩
abbrev S32x40 : Shape := ⟨2, ![32, 40]⟩
abbrev S32x200 : Shape := ⟨2, ![32, 200]⟩
abbrev S5x10000x32 : Shape := ⟨3, ![5, 10000, 32]⟩
abbrev S10000x32 : Shape := ⟨2, ![10000, 32]⟩
abbrev S1x10000x32 : Shape := ⟨3, ![1, 10000, 32]⟩
abbrev S1000x32 : Shape := ⟨2, ![1000, 32]⟩
abbrev S40x32 : Shape := ⟨2, ![40, 32]⟩
abbrev S1024x5 : Shape := ⟨2, ![1024, 5]⟩
abbrev S1x1 : Shape := ⟨2, ![1, 1]⟩
abbrev S1024x32 : Shape := ⟨2, ![1024, 32]⟩
abbrev S1024x1000 : Shape := ⟨2, ![1024, 1000]⟩
abbrev S1x32x32 : Shape := ⟨3, ![1, 32, 32]⟩
abbrev S32x32 : Shape := ⟨2, ![32, 32]⟩
abbrev S1x1024 : Shape := ⟨2, ![1, 1024]⟩
abbrev S1 : Shape := ⟨1, ![1]⟩
abbrev S1x1024x1 : Shape := ⟨3, ![1, 1024, 1]⟩
abbrev S1x1x1 : Shape := ⟨3, ![1, 1, 1]⟩
abbrev S_ : Shape := ⟨0, ![]⟩

abbrev nBuf : Space → Nat
  | .hbm => 33
  | .vmem => 49
  | .smem => 0
  | _ => 0

abbrev bufTy : (tb : Table) → Fin (tcTables nBuf tb) → BufTy
  | .hbm, ⟨0, _⟩ => ⟨S1024, .i32⟩
  | .hbm, ⟨1, _⟩ => ⟨S1024, .i32⟩
  | .hbm, ⟨2, _⟩ => ⟨S1024, .i32⟩
  | .hbm, ⟨3, _⟩ => ⟨S5x10000x1000, .f32⟩
  | .hbm, ⟨4, _⟩ => ⟨S10000x128, .f32⟩
  | .hbm, ⟨5, _⟩ => ⟨S1000x128, .f32⟩
  | .hbm, ⟨6, _⟩ => ⟨S5x128x64, .f32⟩
  | .hbm, ⟨7, _⟩ => ⟨S64, .f32⟩
  | .hbm, ⟨8, _⟩ => ⟨S5x128x64, .f32⟩
  | .hbm, ⟨9, _⟩ => ⟨S64, .f32⟩
  | .hbm, ⟨10, _⟩ => ⟨S5x64x32, .f32⟩
  | .hbm, ⟨11, _⟩ => ⟨S5x64x32, .f32⟩
  | .hbm, ⟨12, _⟩ => ⟨S5x32x32, .f32⟩
  | .hbm, ⟨13, _⟩ => ⟨S5x1000x10000, .f32⟩
  | .hbm, ⟨14, _⟩ => ⟨S10000x128, .bf16⟩
  | .hbm, ⟨15, _⟩ => ⟨S5x32x64, .f32⟩
  | .hbm, ⟨16, _⟩ => ⟨S5x32x64, .f32⟩
  | .hbm, ⟨17, _⟩ => ⟨S1x64, .f32⟩
  | .hbm, ⟨18, _⟩ => ⟨S64x1, .f32⟩
  | .hbm, ⟨19, _⟩ => ⟨S1024x1, .i32⟩
  | .hbm, ⟨20, _⟩ => ⟨S1024x1, .i32⟩
  | .hbm, ⟨21, _⟩ => ⟨S1024x1, .i32⟩
  | .hbm, ⟨22, _⟩ => ⟨S25x64x200, .bf16⟩
  | .hbm, ⟨23, _⟩ => ⟨S32x10000, .f32⟩
  | .hbm, ⟨24, _⟩ => ⟨S64x10000, .f32⟩
  | .hbm, ⟨25, _⟩ => ⟨S5x10000x32, .bf16⟩
  | .hbm, ⟨26, _⟩ => ⟨S10000x32, .f32⟩
  | .hbm, ⟨27, _⟩ => ⟨S1000x32, .f32⟩
  | .hbm, ⟨28, _⟩ => ⟨S1024x5, .f32⟩
  | .hbm, ⟨29, _⟩ => ⟨S1x1, .f32⟩
  | .hbm, ⟨30, _⟩ => ⟨S1x1, .f32⟩
  | .hbm, ⟨31, _⟩ => ⟨S_, .f32⟩
  | .hbm, ⟨32, _⟩ => ⟨S_, .f32⟩
  | .local _ .vmem, ⟨0, _⟩ => ⟨S1000x128, .f32⟩
  | .local _ .vmem, ⟨1, _⟩ => ⟨S5x128x64, .f32⟩
  | .local _ .vmem, ⟨2, _⟩ => ⟨S25x64x200, .bf16⟩
  | .local _ .vmem, ⟨3, _⟩ => ⟨S1x40x10000, .f32⟩
  | .local _ .vmem, ⟨4, _⟩ => ⟨S1x40x10000, .f32⟩
  | .local _ .vmem, ⟨5, _⟩ => ⟨S1x40x10000, .f32⟩
  | .local _ .vmem, ⟨6, _⟩ => ⟨S1x40x10000, .f32⟩
  | .local _ .vmem, ⟨7, _⟩ => ⟨S1x40x10000, .f32⟩
  | .local _ .vmem, ⟨8, _⟩ => ⟨S1x40x10000, .f32⟩
  | .local _ .vmem, ⟨9, _⟩ => ⟨S1x40x10000, .f32⟩
  | .local _ .vmem, ⟨10, _⟩ => ⟨S1x40x10000, .f32⟩
  | .local _ .vmem, ⟨11, _⟩ => ⟨S1x40x10000, .f32⟩
  | .local _ .vmem, ⟨12, _⟩ => ⟨S1x40x10000, .f32⟩
  | .local _ .vmem, ⟨13, _⟩ => ⟨S10000x128, .bf16⟩
  | .local _ .vmem, ⟨14, _⟩ => ⟨S5x128x64, .f32⟩
  | .local _ .vmem, ⟨15, _⟩ => ⟨S1x64, .f32⟩
  | .local _ .vmem, ⟨16, _⟩ => ⟨S5x32x64, .f32⟩
  | .local _ .vmem, ⟨17, _⟩ => ⟨S1x64x200, .bf16⟩
  | .local _ .vmem, ⟨18, _⟩ => ⟨S1x64x200, .bf16⟩
  | .local _ .vmem, ⟨19, _⟩ => ⟨S32x10000, .f32⟩
  | .local _ .vmem, ⟨20, _⟩ => ⟨S64x10000, .f32⟩
  | .local _ .vmem, ⟨21, _⟩ => ⟨S64x10000, .f32⟩
  | .local _ .vmem, ⟨22, _⟩ => ⟨S64x1, .f32⟩
  | .local _ .vmem, ⟨23, _⟩ => ⟨S5x32x64, .f32⟩
  | .local _ .vmem, ⟨24, _⟩ => ⟨S32x10000, .f32⟩
  | .local _ .vmem, ⟨25, _⟩ => ⟨S5x10000x32, .bf16⟩
  | .local _ .vmem, ⟨26, _⟩ => ⟨S10000x32, .f32⟩
  | .local _ .vmem, ⟨27, _⟩ => ⟨S1x40x10000, .f32⟩
  | .local _ .vmem, ⟨28, _⟩ => ⟨S1x40x10000, .f32⟩
  | .local _ .vmem, ⟨29, _⟩ => ⟨S1x40x10000, .f32⟩
  | .local _ .vmem, ⟨30, _⟩ => ⟨S1x40x10000, .f32⟩
  | .local _ .vmem, ⟨31, _⟩ => ⟨S1x40x10000, .f32⟩
  | .local _ .vmem, ⟨32, _⟩ => ⟨S1x40x10000, .f32⟩
  | .local _ .vmem, ⟨33, _⟩ => ⟨S1x40x10000, .f32⟩
  | .local _ .vmem, ⟨34, _⟩ => ⟨S1x40x10000, .f32⟩
  | .local _ .vmem, ⟨35, _⟩ => ⟨S1x40x10000, .f32⟩
  | .local _ .vmem, ⟨36, _⟩ => ⟨S1x40x10000, .f32⟩
  | .local _ .vmem, ⟨37, _⟩ => ⟨S5x10000x32, .bf16⟩
  | .local _ .vmem, ⟨38, _⟩ => ⟨S40x32, .f32⟩
  | .local _ .vmem, ⟨39, _⟩ => ⟨S40x32, .f32⟩
  | .local _ .vmem, ⟨40, _⟩ => ⟨S10000x32, .f32⟩
  | .local _ .vmem, ⟨41, _⟩ => ⟨S1000x32, .f32⟩
  | .local _ .vmem, ⟨42, _⟩ => ⟨S1024x1, .i32⟩
  | .local _ .vmem, ⟨43, _⟩ => ⟨S1024x1, .i32⟩
  | .local _ .vmem, ⟨44, _⟩ => ⟨S1024x1, .i32⟩
  | .local _ .vmem, ⟨45, _⟩ => ⟨S5x32x32, .f32⟩
  | .local _ .vmem, ⟨46, _⟩ => ⟨S1024x5, .f32⟩
  | .local _ .vmem, ⟨47, _⟩ => ⟨S1x1, .f32⟩
  | .local _ .vmem, ⟨48, _⟩ => ⟨S1x1, .f32⟩
  | _, _ => ⟨S1024, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | _, _ => false

abbrev semScoped : Fin 0 → Bool
  | ⟨_, h⟩ => absurd h (Nat.not_lt_zero _)

abbrev dmaSemScoped : Fin 49 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | _ => false

abbrev sig : RefSig :=
  ofTc nBuf bufTy 0 49 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10_0 : Ref sig .tc := ⟨.hbm, 23, rfl⟩
abbrev main_v10_1 : Ref sig .tc := ⟨.hbm, 24, rfl⟩
abbrev main_v11_0 : Ref sig .tc := ⟨.hbm, 25, rfl⟩
abbrev main_v11_1 : Ref sig .tc := ⟨.hbm, 26, rfl⟩
abbrev main_v12 : Ref sig .tc := ⟨.hbm, 27, rfl⟩
abbrev main_v13_0 : Ref sig .tc := ⟨.hbm, 28, rfl⟩
abbrev main_v13_1 : Ref sig .tc := ⟨.hbm, 29, rfl⟩
abbrev main_v13_2 : Ref sig .tc := ⟨.hbm, 30, rfl⟩
abbrev main_v14 : Ref sig .tc := ⟨.hbm, 31, rfl⟩
abbrev main_v15 : Ref sig .tc := ⟨.hbm, 32, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc1_stg0_0 : Ref sig .tc := ⟨.vmem, 3, rfl⟩
abbrev cc1_stg0_1 : Ref sig .tc := ⟨.vmem, 4, rfl⟩
abbrev cc1_stg1_0 : Ref sig .tc := ⟨.vmem, 5, rfl⟩
abbrev cc1_stg1_1 : Ref sig .tc := ⟨.vmem, 6, rfl⟩
abbrev cc1_stg2_0 : Ref sig .tc := ⟨.vmem, 7, rfl⟩
abbrev cc1_stg2_1 : Ref sig .tc := ⟨.vmem, 8, rfl⟩
abbrev cc1_stg3_0 : Ref sig .tc := ⟨.vmem, 9, rfl⟩
abbrev cc1_stg3_1 : Ref sig .tc := ⟨.vmem, 10, rfl⟩
abbrev cc1_stg4_0 : Ref sig .tc := ⟨.vmem, 11, rfl⟩
abbrev cc1_stg4_1 : Ref sig .tc := ⟨.vmem, 12, rfl⟩
abbrev cc1_stg5_0 : Ref sig .tc := ⟨.vmem, 13, rfl⟩
abbrev cc1_stg6_0 : Ref sig .tc := ⟨.vmem, 14, rfl⟩
abbrev cc1_stg7_0 : Ref sig .tc := ⟨.vmem, 15, rfl⟩
abbrev cc1_stg8_0 : Ref sig .tc := ⟨.vmem, 16, rfl⟩
abbrev cc1_stg9_0 : Ref sig .tc := ⟨.vmem, 17, rfl⟩
abbrev cc1_stg9_1 : Ref sig .tc := ⟨.vmem, 18, rfl⟩
abbrev cc1_stg10_0 : Ref sig .tc := ⟨.vmem, 19, rfl⟩
abbrev cc1_stg11_0 : Ref sig .tc := ⟨.vmem, 20, rfl⟩
abbrev cc2_stg0_0 : Ref sig .tc := ⟨.vmem, 21, rfl⟩
abbrev cc2_stg1_0 : Ref sig .tc := ⟨.vmem, 22, rfl⟩
abbrev cc2_stg2_0 : Ref sig .tc := ⟨.vmem, 23, rfl⟩
abbrev cc2_stg3_0 : Ref sig .tc := ⟨.vmem, 24, rfl⟩
abbrev cc2_stg4_0 : Ref sig .tc := ⟨.vmem, 25, rfl⟩
abbrev cc2_stg5_0 : Ref sig .tc := ⟨.vmem, 26, rfl⟩
abbrev cc3_stg0_0 : Ref sig .tc := ⟨.vmem, 27, rfl⟩
abbrev cc3_stg0_1 : Ref sig .tc := ⟨.vmem, 28, rfl⟩
abbrev cc3_stg1_0 : Ref sig .tc := ⟨.vmem, 29, rfl⟩
abbrev cc3_stg1_1 : Ref sig .tc := ⟨.vmem, 30, rfl⟩
abbrev cc3_stg2_0 : Ref sig .tc := ⟨.vmem, 31, rfl⟩
abbrev cc3_stg2_1 : Ref sig .tc := ⟨.vmem, 32, rfl⟩
abbrev cc3_stg3_0 : Ref sig .tc := ⟨.vmem, 33, rfl⟩
abbrev cc3_stg3_1 : Ref sig .tc := ⟨.vmem, 34, rfl⟩
abbrev cc3_stg4_0 : Ref sig .tc := ⟨.vmem, 35, rfl⟩
abbrev cc3_stg4_1 : Ref sig .tc := ⟨.vmem, 36, rfl⟩
abbrev cc3_stg5_0 : Ref sig .tc := ⟨.vmem, 37, rfl⟩
abbrev cc3_stg6_0 : Ref sig .tc := ⟨.vmem, 38, rfl⟩
abbrev cc3_stg6_1 : Ref sig .tc := ⟨.vmem, 39, rfl⟩
abbrev cc4_stg0_0 : Ref sig .tc := ⟨.vmem, 40, rfl⟩
abbrev cc4_stg1_0 : Ref sig .tc := ⟨.vmem, 41, rfl⟩
abbrev cc4_stg2_0 : Ref sig .tc := ⟨.vmem, 42, rfl⟩
abbrev cc4_stg3_0 : Ref sig .tc := ⟨.vmem, 43, rfl⟩
abbrev cc4_stg4_0 : Ref sig .tc := ⟨.vmem, 44, rfl⟩
abbrev cc4_stg5_0 : Ref sig .tc := ⟨.vmem, 45, rfl⟩
abbrev cc4_stg6_0 : Ref sig .tc := ⟨.vmem, 46, rfl⟩
abbrev cc4_stg7_0 : Ref sig .tc := ⟨.vmem, 47, rfl⟩
abbrev cc4_stg8_0 : Ref sig .tc := ⟨.vmem, 48, rfl⟩
abbrev cc0_sem0_0 : DmaSem sig := 0
abbrev cc0_sem1_0 : DmaSem sig := 1
abbrev cc0_sem2_0 : DmaSem sig := 2
abbrev cc1_sem0_0 : DmaSem sig := 3
abbrev cc1_sem0_1 : DmaSem sig := 4
abbrev cc1_sem1_0 : DmaSem sig := 5
abbrev cc1_sem1_1 : DmaSem sig := 6
abbrev cc1_sem2_0 : DmaSem sig := 7
abbrev cc1_sem2_1 : DmaSem sig := 8
abbrev cc1_sem3_0 : DmaSem sig := 9
abbrev cc1_sem3_1 : DmaSem sig := 10
abbrev cc1_sem4_0 : DmaSem sig := 11
abbrev cc1_sem4_1 : DmaSem sig := 12
abbrev cc1_sem5_0 : DmaSem sig := 13
abbrev cc1_sem6_0 : DmaSem sig := 14
abbrev cc1_sem7_0 : DmaSem sig := 15
abbrev cc1_sem8_0 : DmaSem sig := 16
abbrev cc1_sem9_0 : DmaSem sig := 17
abbrev cc1_sem9_1 : DmaSem sig := 18
abbrev cc1_sem10_0 : DmaSem sig := 19
abbrev cc1_sem11_0 : DmaSem sig := 20
abbrev cc2_sem0_0 : DmaSem sig := 21
abbrev cc2_sem1_0 : DmaSem sig := 22
abbrev cc2_sem2_0 : DmaSem sig := 23
abbrev cc2_sem3_0 : DmaSem sig := 24
abbrev cc2_sem4_0 : DmaSem sig := 25
abbrev cc2_sem5_0 : DmaSem sig := 26
abbrev cc3_sem0_0 : DmaSem sig := 27
abbrev cc3_sem0_1 : DmaSem sig := 28
abbrev cc3_sem1_0 : DmaSem sig := 29
abbrev cc3_sem1_1 : DmaSem sig := 30
abbrev cc3_sem2_0 : DmaSem sig := 31
abbrev cc3_sem2_1 : DmaSem sig := 32
abbrev cc3_sem3_0 : DmaSem sig := 33
abbrev cc3_sem3_1 : DmaSem sig := 34
abbrev cc3_sem4_0 : DmaSem sig := 35
abbrev cc3_sem4_1 : DmaSem sig := 36
abbrev cc3_sem5_0 : DmaSem sig := 37
abbrev cc3_sem6_0 : DmaSem sig := 38
abbrev cc3_sem6_1 : DmaSem sig := 39
abbrev cc4_sem0_0 : DmaSem sig := 40
abbrev cc4_sem1_0 : DmaSem sig := 41
abbrev cc4_sem2_0 : DmaSem sig := 42
abbrev cc4_sem3_0 : DmaSem sig := 43
abbrev cc4_sem4_0 : DmaSem sig := 44
abbrev cc4_sem5_0 : DmaSem sig := 45
abbrev cc4_sem6_0 : DmaSem sig := 46
abbrev cc4_sem7_0 : DmaSem sig := 47
abbrev cc4_sem8_0 : DmaSem sig := 48

abbrev nD : Nat := 1
abbrev τ : Topo := Topo.v7x

variable {F : FTy → Type} [FloatOps F]

abbrev grid0 : Pipeline.Grid := .none

abbrev stage0_0 : Fin 1 → Memref sig .tc .vmem S1000x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S5x128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S25x64x200 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev grid1 : Pipeline.Grid := ⟨1, ![25], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_1 (i : grid1.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc1_transform_2 (i : grid1.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc1_transform_3 (i : grid1.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc1_transform_4 (i : grid1.Coords) : Fin 3 → Nat :=
  let arg0 : BitVec 32 := BitVec.ofNat 32 (i 0).val
  let c4_i32 : BitVec 32 := 4#32
  let c0_i32 : BitVec 32 := 0#32
  let c0_i32_0 : BitVec 32 := 0#32
  ![c4_i32.toNat, arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_9 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S1x40x10000 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x40x10000 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x40x10000 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1x40x10000 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S1x40x10000 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 1 → Memref sig .tc .vmem S10000x128 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S5x128x64 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x64 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S5x32x64 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 2 → Memref sig .tc .vmem S1x64x200 .bf16 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev stage1_10 : Fin 1 → Memref sig .tc .vmem S32x10000 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 1 → Memref sig .tc .vmem S64x10000 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![false]

abbrev grid2 : Pipeline.Grid := .none

abbrev stage2_0 : Fin 1 → Memref sig .tc .vmem S64x10000 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))

abbrev stage2_1 : Fin 1 → Memref sig .tc .vmem S64x1 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))

abbrev stage2_2 : Fin 1 → Memref sig .tc .vmem S5x32x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))

abbrev stage2_3 : Fin 1 → Memref sig .tc .vmem S32x10000 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))

abbrev stage2_4 : Fin 1 → Memref sig .tc .vmem S5x10000x32 .bf16 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))

abbrev stage2_5 : Fin 1 → Memref sig .tc .vmem S10000x32 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))

abbrev grid3 : Pipeline.Grid := ⟨1, ![25], ![false]⟩

def cc3_transform_0 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc3_transform_1 (i : grid3.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc3_transform_2 (i : grid3.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc3_transform_3 (i : grid3.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc3_transform_4 (i : grid3.Coords) : Fin 3 → Nat :=
  let arg0 : BitVec 32 := BitVec.ofNat 32 (i 0).val
  let c4_i32 : BitVec 32 := 4#32
  let c0_i32 : BitVec 32 := 0#32
  let c0_i32_0 : BitVec 32 := 0#32
  ![c4_i32.toNat, arg0.toNat, c0_i32.toNat]

def cc3_transform_5 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S1x40x10000 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S1x40x10000 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S1x40x10000 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S1x40x10000 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 2 → Memref sig .tc .vmem S1x40x10000 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev stage3_5 : Fin 1 → Memref sig .tc .vmem S5x10000x32 .bf16 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 2 → Memref sig .tc .vmem S40x32 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev grid4 : Pipeline.Grid := .none

abbrev stage4_0 : Fin 1 → Memref sig .tc .vmem S10000x32 .f32 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))

abbrev stage4_1 : Fin 1 → Memref sig .tc .vmem S1000x32 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))

abbrev stage4_2 : Fin 1 → Memref sig .tc .vmem S1024x1 .i32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))

abbrev stage4_3 : Fin 1 → Memref sig .tc .vmem S1024x1 .i32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))

abbrev stage4_4 : Fin 1 → Memref sig .tc .vmem S1024x1 .i32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))

abbrev stage4_5 : Fin 1 → Memref sig .tc .vmem S5x32x32 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))

abbrev stage4_6 : Fin 1 → Memref sig .tc .vmem S1024x5 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))

abbrev stage4_7 : Fin 1 → Memref sig .tc .vmem S1x1 .f32 := fun | 0 => Memref.whole cc4_stg7_0 | ⟨_ + 1, h⟩ => absurd h (Nat.not_lt.2 (Nat.le_add_left _ _))
abbrev sem4_7 : Fin 1 → DmaSem sig := fun | 0 => cc4_sem7_0 | ⟨_ + 1, h⟩ => absurd h (Nat.not_lt.2 (Nat.le_add_left _ _))

abbrev stage4_8 : Fin 1 → Memref sig .tc .vmem S1x1 .f32 := fun | 0 => Memref.whole cc4_stg8_0 | ⟨_ + 1, h⟩ => absurd h (Nat.not_lt.2 (Nat.le_add_left _ _))
abbrev sem4_8 : Fin 1 → DmaSem sig := fun | 0 => cc4_sem8_0 | ⟨_ + 1, h⟩ => absurd h (Nat.not_lt.2 (Nat.le_add_left _ _))
-- ==== ReferenceIdeal.lean ====
abbrev S1024 : Shape := ⟨1, ![1024]⟩
abbrev S5x10000x1000 : Shape := ⟨3, ![5, 10000, 1000]⟩
abbrev S10000x128 : Shape := ⟨2, ![10000, 128]⟩
abbrev S1000x128 : Shape := ⟨2, ![1000, 128]⟩
abbrev S5x128x64 : Shape := ⟨3, ![5, 128, 64]⟩
abbrev S64 : Shape := ⟨1, ![64]⟩
abbrev S5x64x32 : Shape := ⟨3, ![5, 64, 32]⟩
abbrev S5x32x32 : Shape := ⟨3, ![5, 32, 32]⟩
abbrev S5x1000x128 : Shape := ⟨3, ![5, 1000, 128]⟩
abbrev S1000x64 : Shape := ⟨2, ![1000, 64]⟩
abbrev S1x64 : Shape := ⟨2, ![1, 64]⟩
abbrev S_ : Shape := ⟨0, ![]⟩
abbrev S5x10000x128 : Shape := ⟨3, ![5, 10000, 128]⟩
abbrev S10000x64 : Shape := ⟨2, ![10000, 64]⟩
abbrev S5x32x1000 : Shape := ⟨3, ![5, 32, 1000]⟩
abbrev S10000x32 : Shape := ⟨2, ![10000, 32]⟩
abbrev S5x32x10000 : Shape := ⟨3, ![5, 32, 10000]⟩
abbrev S1000x32 : Shape := ⟨2, ![1000, 32]⟩
abbrev S1024x1 : Shape := ⟨2, ![1024, 1]⟩
abbrev S1 : Shape := ⟨1, ![1]⟩
abbrev S1x1 : Shape := ⟨2, ![1, 1]⟩
abbrev S1024x32 : Shape := ⟨2, ![1024, 32]⟩
abbrev S5x32x1024 : Shape := ⟨3, ![5, 32, 1024]⟩
abbrev S1024x5 : Shape := ⟨2, ![1024, 5]⟩
abbrev S1x5 : Shape := ⟨2, ![1, 5]⟩

abbrev nBuf : Space → Nat
  | .hbm => 121
  | .vmem => 0
  | .smem => 0
  | _ => 0

abbrev bufTy : (tb : Table) → Fin (tcTables nBuf tb) → BufTy
  | .hbm, ⟨0, _⟩ => ⟨S1024, .i32⟩
  | .hbm, ⟨1, _⟩ => ⟨S1024, .i32⟩
  | .hbm, ⟨2, _⟩ => ⟨S1024, .i32⟩
  | .hbm, ⟨3, _⟩ => ⟨S5x10000x1000, .f32⟩
  | .hbm, ⟨4, _⟩ => ⟨S10000x128, .f32⟩
  | .hbm, ⟨5, _⟩ => ⟨S1000x128, .f32⟩
  | .hbm, ⟨6, _⟩ => ⟨S5x128x64, .f32⟩
  | .hbm, ⟨7, _⟩ => ⟨S64, .f32⟩
  | .hbm, ⟨8, _⟩ => ⟨S5x128x64, .f32⟩
  | .hbm, ⟨9, _⟩ => ⟨S64, .f32⟩
  | .hbm, ⟨10, _⟩ => ⟨S5x64x32, .f32⟩
  | .hbm, ⟨11, _⟩ => ⟨S5x64x32, .f32⟩
  | .hbm, ⟨12, _⟩ => ⟨S5x32x32, .f32⟩
  | .hbm, ⟨13, _⟩ => ⟨S5x1000x128, .f32⟩
  | .hbm, ⟨14, _⟩ => ⟨S1000x64, .f32⟩
  | .hbm, ⟨15, _⟩ => ⟨S1x64, .f32⟩
  | .hbm, ⟨16, _⟩ => ⟨S1000x64, .f32⟩
  | .hbm, ⟨17, _⟩ => ⟨S1000x64, .f32⟩
  | .hbm, ⟨18, _⟩ => ⟨S_, .f32⟩
  | .hbm, ⟨19, _⟩ => ⟨S1000x64, .f32⟩
  | .hbm, ⟨20, _⟩ => ⟨S1000x64, .f32⟩
  | .hbm, ⟨21, _⟩ => ⟨S5x10000x128, .f32⟩
  | .hbm, ⟨22, _⟩ => ⟨S10000x64, .f32⟩
  | .hbm, ⟨23, _⟩ => ⟨S1x64, .f32⟩
  | .hbm, ⟨24, _⟩ => ⟨S10000x64, .f32⟩
  | .hbm, ⟨25, _⟩ => ⟨S10000x64, .f32⟩
  | .hbm, ⟨26, _⟩ => ⟨S_, .f32⟩
  | .hbm, ⟨27, _⟩ => ⟨S10000x64, .f32⟩
  | .hbm, ⟨28, _⟩ => ⟨S10000x64, .f32⟩
  | .hbm, ⟨29, _⟩ => ⟨S5x32x1000, .f32⟩
  | .hbm, ⟨30, _⟩ => ⟨S10000x32, .f32⟩
  | .hbm, ⟨31, _⟩ => ⟨S5x32x10000, .f32⟩
  | .hbm, ⟨32, _⟩ => ⟨S1000x32, .f32⟩
  | .hbm, ⟨33, _⟩ => ⟨S_, .i32⟩
  | .hbm, ⟨34, _⟩ => ⟨S1024, .i32⟩
  | .hbm, ⟨35, _⟩ => ⟨S1024, .i1⟩
  | .hbm, ⟨36, _⟩ => ⟨S_, .i32⟩
  | .hbm, ⟨37, _⟩ => ⟨S1024, .i32⟩
  | .hbm, ⟨38, _⟩ => ⟨S1024, .i32⟩
  | .hbm, ⟨39, _⟩ => ⟨S1024, .i32⟩
  | .hbm, ⟨40, _⟩ => ⟨S1024x1, .i32⟩
  | .hbm, ⟨41, _⟩ => ⟨S1, .i32⟩
  | .hbm, ⟨42, _⟩ => ⟨S_, .i32⟩
  | .hbm, ⟨43, _⟩ => ⟨S1024x1, .i32⟩
  | .hbm, ⟨44, _⟩ => ⟨S1024x1, .i1⟩
  | .hbm, ⟨45, _⟩ => ⟨S1x1, .i32⟩
  | .hbm, ⟨46, _⟩ => ⟨S1024x1, .i32⟩
  | .hbm, ⟨47, _⟩ => ⟨S1024x1, .i1⟩
  | .hbm, ⟨48, _⟩ => ⟨S1024x1, .i1⟩
  | .hbm, ⟨49, _⟩ => ⟨S_, .i1⟩
  | .hbm, ⟨50, _⟩ => ⟨S1024, .i1⟩
  | .hbm, ⟨51, _⟩ => ⟨S1024x32, .f32⟩
  | .hbm, ⟨52, _⟩ => ⟨S1024x32, .i1⟩
  | .hbm, ⟨53, _⟩ => ⟨S_, .f32⟩
  | .hbm, ⟨54, _⟩ => ⟨S1024x32, .f32⟩
  | .hbm, ⟨55, _⟩ => ⟨S1024x32, .f32⟩
  | .hbm, ⟨56, _⟩ => ⟨S_, .i32⟩
  | .hbm, ⟨57, _⟩ => ⟨S1024, .i32⟩
  | .hbm, ⟨58, _⟩ => ⟨S1024, .i1⟩
  | .hbm, ⟨59, _⟩ => ⟨S_, .i32⟩
  | .hbm, ⟨60, _⟩ => ⟨S1024, .i32⟩
  | .hbm, ⟨61, _⟩ => ⟨S1024, .i32⟩
  | .hbm, ⟨62, _⟩ => ⟨S1024, .i32⟩
  | .hbm, ⟨63, _⟩ => ⟨S1024x1, .i32⟩
  | .hbm, ⟨64, _⟩ => ⟨S1, .i32⟩
  | .hbm, ⟨65, _⟩ => ⟨S_, .i32⟩
  | .hbm, ⟨66, _⟩ => ⟨S1024x1, .i32⟩
  | .hbm, ⟨67, _⟩ => ⟨S1024x1, .i1⟩
  | .hbm, ⟨68, _⟩ => ⟨S1x1, .i32⟩
  | .hbm, ⟨69, _⟩ => ⟨S1024x1, .i32⟩
  | .hbm, ⟨70, _⟩ => ⟨S1024x1, .i1⟩
  | .hbm, ⟨71, _⟩ => ⟨S1024x1, .i1⟩
  | .hbm, ⟨72, _⟩ => ⟨S_, .i1⟩
  | .hbm, ⟨73, _⟩ => ⟨S1024, .i1⟩
  | .hbm, ⟨74, _⟩ => ⟨S1024x32, .f32⟩
  | .hbm, ⟨75, _⟩ => ⟨S1024x32, .i1⟩
  | .hbm, ⟨76, _⟩ => ⟨S_, .f32⟩
  | .hbm, ⟨77, _⟩ => ⟨S1024x32, .f32⟩
  | .hbm, ⟨78, _⟩ => ⟨S1024x32, .f32⟩
  | .hbm, ⟨79, _⟩ => ⟨S5x32x1024, .f32⟩
  | .hbm, ⟨80, _⟩ => ⟨S1024x5, .f32⟩
  | .hbm, ⟨81, _⟩ => ⟨S1024x1, .i32⟩
  | .hbm, ⟨82, _⟩ => ⟨S1x5, .i32⟩
  | .hbm, ⟨83, _⟩ => ⟨S1024x5, .i32⟩
  | .hbm, ⟨84, _⟩ => ⟨S1024x5, .i32⟩
  | .hbm, ⟨85, _⟩ => ⟨S1024x5, .i1⟩
  | .hbm, ⟨86, _⟩ => ⟨S1024x5, .f32⟩
  | .hbm, ⟨87, _⟩ => ⟨S_, .f32⟩
  | .hbm, ⟨88, _⟩ => ⟨S1024, .f32⟩
  | .hbm, ⟨89, _⟩ => ⟨S_, .f32⟩
  | .hbm, ⟨90, _⟩ => ⟨S1024, .f32⟩
  | .hbm, ⟨91, _⟩ => ⟨S1024, .f32⟩
  | .hbm, ⟨92, _⟩ => ⟨S1024x1, .f32⟩
  | .hbm, ⟨93, _⟩ => ⟨S1024x5, .f32⟩
  | .hbm, ⟨94, _⟩ => ⟨S1024x5, .f32⟩
  | .hbm, ⟨95, _⟩ => ⟨S1024x5, .f32⟩
  | .hbm, ⟨96, _⟩ => ⟨S_, .f32⟩
  | .hbm, ⟨97, _⟩ => ⟨S1024, .f32⟩
  | .hbm, ⟨98, _⟩ => ⟨S1024x1, .f32⟩
  | .hbm, ⟨99, _⟩ => ⟨S1024x1, .f32⟩
  | .hbm, ⟨100, _⟩ => ⟨S1024x5, .f32⟩
  | .hbm, ⟨101, _⟩ => ⟨S1024x5, .f32⟩
  | .hbm, ⟨102, _⟩ => ⟨S1024x5, .f32⟩
  | .hbm, ⟨103, _⟩ => ⟨S_, .f32⟩
  | .hbm, ⟨104, _⟩ => ⟨S1024, .f32⟩
  | .hbm, ⟨105, _⟩ => ⟨S_, .f32⟩
  | .hbm, ⟨106, _⟩ => ⟨S_, .f32⟩
  | .hbm, ⟨107, _⟩ => ⟨S_, .f32⟩
  | .hbm, ⟨108, _⟩ => ⟨S_, .f32⟩
  | .hbm, ⟨109, _⟩ => ⟨S_, .f32⟩
  | .hbm, ⟨110, _⟩ => ⟨S1024x5, .i32⟩
  | .hbm, ⟨111, _⟩ => ⟨S_, .f32⟩
  | .hbm, ⟨112, _⟩ => ⟨S_, .i32⟩
  | .hbm, ⟨113, _⟩ => ⟨S1024, .f32⟩
  | .hbm, ⟨114, _⟩ => ⟨S1024, .i32⟩
  | .hbm, ⟨115, _⟩ => ⟨S1024, .i1⟩
  | .hbm, ⟨116, _⟩ => ⟨S1024, .f32⟩
  | .hbm, ⟨117, _⟩ => ⟨S_, .f32⟩
  | .hbm, ⟨118, _⟩ => ⟨S_, .f32⟩
  | .hbm, ⟨119, _⟩ => ⟨S_, .f32⟩
  | .hbm, ⟨120, _⟩ => ⟨S_, .f32⟩
  | _, _ => ⟨S1024, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_call0_cst : Ref sig .tc := ⟨.hbm, 18, rfl⟩
abbrev main_call0_v0 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_call1_cst : Ref sig .tc := ⟨.hbm, 26, rfl⟩
abbrev main_call1_v0 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_call2_c : Ref sig .tc := ⟨.hbm, 33, rfl⟩
abbrev main_call2_v0 : Ref sig .tc := ⟨.hbm, 34, rfl⟩
abbrev main_call2_v1 : Ref sig .tc := ⟨.hbm, 35, rfl⟩
abbrev main_call2_c_0 : Ref sig .tc := ⟨.hbm, 36, rfl⟩
abbrev main_call2_v2 : Ref sig .tc := ⟨.hbm, 37, rfl⟩
abbrev main_call2_v3 : Ref sig .tc := ⟨.hbm, 38, rfl⟩
abbrev main_call2_v4 : Ref sig .tc := ⟨.hbm, 39, rfl⟩
abbrev main_call2_v5 : Ref sig .tc := ⟨.hbm, 40, rfl⟩
abbrev main_call2_c_1 : Ref sig .tc := ⟨.hbm, 41, rfl⟩
abbrev main_call2_c_2 : Ref sig .tc := ⟨.hbm, 42, rfl⟩
abbrev main_call2_v6 : Ref sig .tc := ⟨.hbm, 43, rfl⟩
abbrev main_call2_v7 : Ref sig .tc := ⟨.hbm, 44, rfl⟩
abbrev main_call2_v8 : Ref sig .tc := ⟨.hbm, 45, rfl⟩
abbrev main_call2_v9 : Ref sig .tc := ⟨.hbm, 46, rfl⟩
abbrev main_call2_v10 : Ref sig .tc := ⟨.hbm, 47, rfl⟩
abbrev main_call2_v11 : Ref sig .tc := ⟨.hbm, 48, rfl⟩
abbrev main_call2_c_3 : Ref sig .tc := ⟨.hbm, 49, rfl⟩
abbrev main_call2_v12 : Ref sig .tc := ⟨.hbm, 50, rfl⟩
abbrev main_call2_v13 : Ref sig .tc := ⟨.hbm, 51, rfl⟩
abbrev main_call2_v14 : Ref sig .tc := ⟨.hbm, 52, rfl⟩
abbrev main_call2_cst : Ref sig .tc := ⟨.hbm, 53, rfl⟩
abbrev main_call2_v15 : Ref sig .tc := ⟨.hbm, 54, rfl⟩
abbrev main_v16 : Ref sig .tc := ⟨.hbm, 55, rfl⟩
abbrev main_call3_c : Ref sig .tc := ⟨.hbm, 56, rfl⟩
abbrev main_call3_v0 : Ref sig .tc := ⟨.hbm, 57, rfl⟩
abbrev main_call3_v1 : Ref sig .tc := ⟨.hbm, 58, rfl⟩
abbrev main_call3_c_0 : Ref sig .tc := ⟨.hbm, 59, rfl⟩
abbrev main_call3_v2 : Ref sig .tc := ⟨.hbm, 60, rfl⟩
abbrev main_call3_v3 : Ref sig .tc := ⟨.hbm, 61, rfl⟩
abbrev main_call3_v4 : Ref sig .tc := ⟨.hbm, 62, rfl⟩
abbrev main_call3_v5 : Ref sig .tc := ⟨.hbm, 63, rfl⟩
abbrev main_call3_c_1 : Ref sig .tc := ⟨.hbm, 64, rfl⟩
abbrev main_call3_c_2 : Ref sig .tc := ⟨.hbm, 65, rfl⟩
abbrev main_call3_v6 : Ref sig .tc := ⟨.hbm, 66, rfl⟩
abbrev main_call3_v7 : Ref sig .tc := ⟨.hbm, 67, rfl⟩
abbrev main_call3_v8 : Ref sig .tc := ⟨.hbm, 68, rfl⟩
abbrev main_call3_v9 : Ref sig .tc := ⟨.hbm, 69, rfl⟩
abbrev main_call3_v10 : Ref sig .tc := ⟨.hbm, 70, rfl⟩
abbrev main_call3_v11 : Ref sig .tc := ⟨.hbm, 71, rfl⟩
abbrev main_call3_c_3 : Ref sig .tc := ⟨.hbm, 72, rfl⟩
abbrev main_call3_v12 : Ref sig .tc := ⟨.hbm, 73, rfl⟩
abbrev main_call3_v13 : Ref sig .tc := ⟨.hbm, 74, rfl⟩
abbrev main_call3_v14 : Ref sig .tc := ⟨.hbm, 75, rfl⟩
abbrev main_call3_cst : Ref sig .tc := ⟨.hbm, 76, rfl⟩
abbrev main_call3_v15 : Ref sig .tc := ⟨.hbm, 77, rfl⟩
abbrev main_v17 : Ref sig .tc := ⟨.hbm, 78, rfl⟩
abbrev main_v18 : Ref sig .tc := ⟨.hbm, 79, rfl⟩
abbrev main_v19 : Ref sig .tc := ⟨.hbm, 80, rfl⟩
abbrev main_call4_v0 : Ref sig .tc := ⟨.hbm, 81, rfl⟩
abbrev main_call4_v1 : Ref sig .tc := ⟨.hbm, 82, rfl⟩
abbrev main_call4_v2 : Ref sig .tc := ⟨.hbm, 83, rfl⟩
abbrev main_call4_v3 : Ref sig .tc := ⟨.hbm, 84, rfl⟩
abbrev main_call4_v4 : Ref sig .tc := ⟨.hbm, 85, rfl⟩
abbrev main_v20 : Ref sig .tc := ⟨.hbm, 86, rfl⟩
abbrev main_call5_cst : Ref sig .tc := ⟨.hbm, 87, rfl⟩
abbrev main_call5_v0 : Ref sig .tc := ⟨.hbm, 88, rfl⟩
abbrev main_call5_cst_0 : Ref sig .tc := ⟨.hbm, 89, rfl⟩
abbrev main_call5_v1 : Ref sig .tc := ⟨.hbm, 90, rfl⟩
abbrev main_call5_v2 : Ref sig .tc := ⟨.hbm, 91, rfl⟩
abbrev main_call5_v3 : Ref sig .tc := ⟨.hbm, 92, rfl⟩
abbrev main_call5_v4 : Ref sig .tc := ⟨.hbm, 93, rfl⟩
abbrev main_call5_v5 : Ref sig .tc := ⟨.hbm, 94, rfl⟩
abbrev main_call5_v6 : Ref sig .tc := ⟨.hbm, 95, rfl⟩
abbrev main_call5_cst_1 : Ref sig .tc := ⟨.hbm, 96, rfl⟩
abbrev main_call5_v7 : Ref sig .tc := ⟨.hbm, 97, rfl⟩
abbrev main_call5_v8 : Ref sig .tc := ⟨.hbm, 98, rfl⟩
abbrev main_call5_v9 : Ref sig .tc := ⟨.hbm, 99, rfl⟩
abbrev main_call5_v10 : Ref sig .tc := ⟨.hbm, 100, rfl⟩
abbrev main_v21 : Ref sig .tc := ⟨.hbm, 101, rfl⟩
abbrev main_v22 : Ref sig .tc := ⟨.hbm, 102, rfl⟩
abbrev main_cst : Ref sig .tc := ⟨.hbm, 103, rfl⟩
abbrev main_v23 : Ref sig .tc := ⟨.hbm, 104, rfl⟩
abbrev main_cst_0 : Ref sig .tc := ⟨.hbm, 105, rfl⟩
abbrev main_v24 : Ref sig .tc := ⟨.hbm, 106, rfl⟩
abbrev main_cst_1 : Ref sig .tc := ⟨.hbm, 107, rfl⟩
abbrev main_v25 : Ref sig .tc := ⟨.hbm, 108, rfl⟩
abbrev main_v26 : Ref sig .tc := ⟨.hbm, 109, rfl⟩
abbrev main_call6_v0 : Ref sig .tc := ⟨.hbm, 110, rfl⟩
abbrev main_call6_cst : Ref sig .tc := ⟨.hbm, 111, rfl⟩
abbrev main_call6_c : Ref sig .tc := ⟨.hbm, 112, rfl⟩
abbrev main_call6_v1_0 : Ref sig .tc := ⟨.hbm, 113, rfl⟩
abbrev main_v27 : Ref sig .tc := ⟨.hbm, 114, rfl⟩
abbrev main_v28 : Ref sig .tc := ⟨.hbm, 115, rfl⟩
abbrev main_v29 : Ref sig .tc := ⟨.hbm, 116, rfl⟩
abbrev main_cst_2 : Ref sig .tc := ⟨.hbm, 117, rfl⟩
abbrev main_v30 : Ref sig .tc := ⟨.hbm, 118, rfl⟩
abbrev main_cst_3 : Ref sig .tc := ⟨.hbm, 119, rfl⟩
abbrev main_v31 : Ref sig .tc := ⟨.hbm, 120, rfl⟩

abbrev nD : Nat := 1
abbrev τ : Topo := Topo.v7x

variable {F : FTy → Type} [FloatOps F]
-- ==== Proof.KRun.lean ====
module

public import proofs.«01_k».proof.Proof.Gen.KernelIdeal.Frame
public import Idealize.ShloMosaic.PureOps.Ideal

public section

/-! # The idealized kernel run to its last buffers

The whole program is launched once.  It is read further than the frame does: every buffer of the main
function ends at the value `W7` that the program's segments, followed in order, leave in it. -/

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

/-- After the run every buffer of the main function holds its value after the last host operations, and no
semaphore holds a count. -/
theorem run : θ_run defs (onTc (τ := τ) (main (F := Ideal))) ⟨m, fun _ => 0, ρ⟩ (fun r =>
      (∀ c : Dev nD, ∀ b ∈ Pipeline.ucRefs τ sig, r.2.mem ((c : Thread nD τ).1, b) = W7 m ρ c b)
      ∧ r.2.sem = fun _ => 0) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h hz => ⟨h, funext fun g => hz g (.inr (no_unscoped g.2))⟩)

end Cert.KernelIdeal.KRun
end
-- ==== Proof.RefRun.lean ====
/-
  The reference's run. Its host operations are grouped into named stages (the two layers, the two lookups, the
  decoder, the loss, the accuracy), and the run says what the three result arrays hold in terms of the stages.
-/
module

public import proofs.«01_k».proof.Proof.Gen.ReferenceIdeal
public import Idealize.ShloMosaic.Lib.Claim
public import Idealize.ShloMosaic.PureOps.Ideal

@[expose] public section

set_option maxRecDepth 16384

noncomputable section

namespace Cert.RefRun

open Cert.ReferenceIdeal Cert.ReferenceIdeal.Gen Idealize.ShloMosaic Idealize.ShloMosaic.TcCoe Idealize.SL.Sem
open Idealize.ShloMosaic.StableHlo

/-- The items' hidden rows: neighbours' embeddings, a dense layer, a bias, relu. -/
def hItems (r : FVec Ideal S5x10000x1000 .f32) (e : FVec Ideal S10000x128 .f32) (w : FVec Ideal S5x128x64 .f32)
    (b : FVec Ideal S64 .f32) : FVec Ideal S1000x64 .f32 :=
  maximumf (addf (Host.dotGeneral dot_S5x1000x128_S5x128x64_S1000x64_02_01_1_2_n_n none
      (Host.dotGeneral dot_S5x10000x1000_S10000x128_S5x1000x128_1_0_02_1_n_n none r e) w)
    (broadcastInDim S1000x64 ![0, 1] bcast_S1x64_S1000x64_0_1 (broadcastInDim S1x64 ![1] bcast_S64_S1x64_1 b)))
    (broadcastInDim S1000x64 ![] bcast_S_S1000x64 (constant S_ .f32 0x00000000#32))

/-- The users' hidden rows, likewise over the items. -/
def hUsers (r : FVec Ideal S5x10000x1000 .f32) (e : FVec Ideal S1000x128 .f32) (w : FVec Ideal S5x128x64 .f32)
    (b : FVec Ideal S64 .f32) : FVec Ideal S10000x64 .f32 :=
  maximumf (addf (Host.dotGeneral dot_S5x10000x128_S5x128x64_S10000x64_02_01_1_2_n_n none
      (Host.dotGeneral dot_S5x10000x1000_S1000x128_S5x10000x128_2_0_01_1_n_n none r e) w)
    (broadcastInDim S10000x64 ![0, 1] bcast_S1x64_S10000x64_0_1 (broadcastInDim S1x64 ![1] bcast_S64_S1x64_1 b)))
    (broadcastInDim S10000x64 ![] bcast_S_S10000x64 (constant S_ .f32 0x00000000#32))

/-- The users' codes: the second layer over the items' hidden rows. -/
def zUsers (r : FVec Ideal S5x10000x1000 .f32) (w : FVec Ideal S5x64x32 .f32) (h : FVec Ideal S1000x64 .f32) :
    FVec Ideal S10000x32 .f32 :=
  Host.dotGeneral dot_S5x10000x1000_S5x32x1000_S10000x32_02_02_1_1_n_n none r
    (Host.dotGeneral dot_S5x64x32_S1000x64_S5x32x1000_1_1_02_0_n_n none w h)

/-- The items' codes: the second layer over the users' hidden rows. -/
def zItems (r : FVec Ideal S5x10000x1000 .f32) (w : FVec Ideal S5x64x32 .f32) (h : FVec Ideal S10000x64 .f32) :
    FVec Ideal S1000x32 .f32 :=
  Host.dotGeneral dot_S5x10000x1000_S5x32x10000_S1000x32_01_02_2_1_n_n none r
    (Host.dotGeneral dot_S5x64x32_S10000x64_S5x32x10000_1_1_02_0_n_n none w h)

/-- A row number as the lookup reads it: a negative one counts from the end `k`. -/
def rowNo (k : BitVec 32) (u : IVec S1024 32) : IVec S1024x1 32 :=
  broadcastInDim S1024x1 ![0] bcast_S1024_S1024x1_0
    (select (cmpi .slt u (broadcastInDim S1024 ![] bcast_S_S1024 (constantI S_ 32 0#32)))
      (addi u (broadcastInDim S1024 ![] bcast_S_S1024 (constantI S_ 32 k))) u)

/-- Whether a row number is one of the rows `0 … k`. -/
def rowOk (k : BitVec 32) (i : IVec S1024x1 32) : IVec S1024 1 :=
  Host.reduce IntOp.andi
    (andi (cmpi .sge i (broadcastInDim S1024x1 ![] bcast_S_S1024x1 (constantI S_ 32 0#32)))
      (cmpi .sle i (broadcastInDim S1024x1 ![0, 1] bcast_S1x1_S1024x1_0_1
        (broadcastInDim S1x1 ![1] bcast_S1_S1x1_1 (constantI S1 32 k)))))
    (constantI S_ 1 1#1) reducesTo_S1024x1_S1024_d1 h_S_

/-- The looked-up users' codes. -/
def takeUsers (z : FVec Ideal S10000x32 .f32) (u : IVec S1024 32) : FVec Ideal S1024x32 .f32 :=
  select (broadcastInDim S1024x32 ![0] bcast_S1024_S1024x32_0 (rowOk 9999#32 (rowNo 10000#32 u)))
    (Host.gather gather_S10000x32_S1024x1_S1024x32_1_0_n_n_0_1_132 z (rowNo 10000#32 u))
    (broadcastInDim S1024x32 ![] bcast_S_S1024x32 (constant S_ .f32 0x7FC00000#32))

/-- The looked-up items' codes. -/
def takeItems (z : FVec Ideal S1000x32 .f32) (v : IVec S1024 32) : FVec Ideal S1024x32 .f32 :=
  select (broadcastInDim S1024x32 ![0] bcast_S1024_S1024x32_0 (rowOk 999#32 (rowNo 1000#32 v)))
    (Host.gather gather_S1000x32_S1024x1_S1024x32_1_0_n_n_0_1_132 z (rowNo 1000#32 v))
    (broadcastInDim S1024x32 ![] bcast_S_S1024x32 (constant S_ .f32 0x7FC00000#32))

/-- The decoder's scores, one for each class. -/
def scores (q : FVec Ideal S5x32x32 .f32) (zu zv : FVec Ideal S1024x32 .f32) : FVec Ideal S1024x5 .f32 :=
  Host.dotGeneral dot_S1024x32_S5x32x1024_S1024x5_1_1_n_0_0_2 none zv
    (Host.dotGeneral dot_S5x32x32_S1024x32_S5x32x1024_1_1_02_0_n_n none q zu)

/-- The labels as rows of zeros and one. -/
def labels (n : IVec S1024 32) : FVec Ideal S1024x5 .f32 :=
  uitofp .f32 (cmpi .eq
    (broadcastInDim S1024x5 ![0, 1] bcast_S1024x1_S1024x5_0_1 (broadcastInDim S1024x1 ![0] bcast_S1024_S1024x1_0 n))
    (broadcastInDim S1024x5 ![0, 1] bcast_S1x5_S1024x5_0_1 (iotaInDim S1x5 32 1)))

/-- The scores less their row's largest. -/
def centred (s : FVec Ideal S1024x5 .f32) : FVec Ideal S1024x5 .f32 :=
  subf s (broadcastInDim S1024x5 ![0, 1] bcast_S1024x1_S1024x5_0_1
    (broadcastInDim S1024x1 ![0] bcast_S1024_S1024x1_0
      (maximumf (broadcastInDim S1024 ![] bcast_S_S1024 (constant S_ .f32 0xFF800000#32))
        (Host.reduce FloatOps.maximumf s (constant S_ .f32 0xFF800000#32) reducesTo_S1024x5_S1024_d1 h_S_))))

/-- The logarithm of the softmax of centred scores. -/
def logSoftmax (x : FVec Ideal S1024x5 .f32) : FVec Ideal S1024x5 .f32 :=
  subf x (broadcastInDim S1024x5 ![0, 1] bcast_S1024x1_S1024x5_0_1
    (Host.log (broadcastInDim S1024x1 ![0] bcast_S1024_S1024x1_0
      (Host.reduceAdd (Host.exp x) (constant S_ .f32 0x00000000#32) reducesTo_S1024x5_S1024_d1 h_S_))))

/-- The mean cross entropy. -/
def loss (n : IVec S1024 32) (s : FVec Ideal S1024x5 .f32) : FVec Ideal S_ .f32 :=
  Host.negf (Host.divf (Host.reduceAdd
    (Host.reduceAdd (mulf (labels n) (logSoftmax (centred s))) (constant S_ .f32 0x00000000#32)
      reducesTo_S1024x5_S1024_d1 h_S_)
    (constant S_ .f32 0x00000000#32) reducesTo_S1024_S_d0 h_S_) (constant S_ .f32 0x44800000#32))

/-- The first class of the largest score. -/
def best (s : FVec Ideal S1024x5 .f32) : IVec S1024 32 := fun j =>
  (Host.argReduce reducer_argmax_f32_i32 s (iotaInDim S1024x5 32 1) (constant S_ .f32 0xFF800000#32)
    (constantI S_ 32 0#32) reducesTo_S1024x5_S1024_d1 h_S_ j).2

/-- The share of rows whose best class is the label. -/
def accuracy (n : IVec S1024 32) (s : FVec Ideal S1024x5 .f32) : FVec Ideal S_ .f32 :=
  Host.divf (Host.reduceAdd (uitofp .f32 (cmpi .eq (best s) n)) (constant S_ .f32 0x00000000#32)
    reducesTo_S1024_S_d0 h_S_) (constant S_ .f32 0x44800000#32)

variable (m : (ℓ : Loc nD τ sig) → Buf (Elt Ideal) ℓ)

/-- The reference's scores of its arguments. -/
def outScores (c : Dev nD) : FVec Ideal S1024x5 .f32 :=
  scores (m ((c.tc : Thread nD τ).loc main_arg12))
    (takeUsers (zUsers (m ((c.tc : Thread nD τ).loc main_arg3)) (m ((c.tc : Thread nD τ).loc main_arg10))
        (hItems (m ((c.tc : Thread nD τ).loc main_arg3)) (m ((c.tc : Thread nD τ).loc main_arg4))
          (m ((c.tc : Thread nD τ).loc main_arg6)) (m ((c.tc : Thread nD τ).loc main_arg7))))
      (m ((c.tc : Thread nD τ).loc main_arg0)))
    (takeItems (zItems (m ((c.tc : Thread nD τ).loc main_arg3)) (m ((c.tc : Thread nD τ).loc main_arg11))
        (hUsers (m ((c.tc : Thread nD τ).loc main_arg3)) (m ((c.tc : Thread nD τ).loc main_arg5))
          (m ((c.tc : Thread nD τ).loc main_arg8)) (m ((c.tc : Thread nD τ).loc main_arg9))))
      (m ((c.tc : Thread nD τ).loc main_arg1)))

set_option maxHeartbeats 2000000 in
/-- Every execution of the reference ends with the three results at their stages and the arguments unchanged. -/
theorem run (ρ : Dev nD → PrngReg) :
    θ_run defs (onTc (τ := τ) (main (F := Ideal))) ⟨m, fun _ => 0, ρ⟩ fun r => ∀ c : Dev nD,
      r.2.mem ((c.tc : Thread nD τ).loc main_v19) = outScores m c
      ∧ r.2.mem ((c.tc : Thread nD τ).loc main_v26) = loss (m ((c.tc : Thread nD τ).loc main_arg2)) (outScores m c)
      ∧ r.2.mem ((c.tc : Thread nD τ).loc main_v31) = accuracy (m ((c.tc : Thread nD τ).loc main_arg2)) (outScores m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12) := by
  hlo_run
  all_goals rfl

end Cert.RefRun

end
-- ==== Proof.K0.lean ====
/-
  The preparing kernel at an index: for every block of forty items, the embeddings times the five weight matrices,
  laid side by side.
-/
module

public import proofs.«01_k».proof.Proof.Gen.KernelIdeal.Frame.Region0
public import Idealize.ShloMosaic.Lib.Pipeline.ValueKit
public import Idealize.ShloMosaic.PureOps.Ideal

@[expose] public section

set_option maxRecDepth 16384

noncomputable section

namespace Cert.KernelIdeal.K0

open Cert.KernelIdeal Cert.KernelIdeal.Gen
open Idealize.ShloMosaic Idealize.ShloMosaic.TcCoe Idealize.SL.Sem
open Idealize.ShloMosaic.Pipeline (Dat)

variable (V : (c : Dev nD) → (b : Ref sig .tc) → Buf (Elt Ideal) ((c : Thread nD τ).loc b))

/-- Item `v`'s embedding through the weights of class `c`, at hidden unit `h`. -/
def emb (e : FVec Ideal S1000x128 .f32) (w : FVec Ideal S5x128x64 .f32) (c : Fin 5) (h : Fin 64) (v : Fin 1000) : EReal :=
  ∑ d : Fin 128, e (ix2 v d) * w (ix3 c d h)

/-- Block `j` holds, at column `40 c + l`, item `40 j + l` through class `c`. -/
def blocks (e : FVec Ideal S1000x128 .f32) (w : FVec Ideal S5x128x64 .f32) : FVec Ideal S25x64x200 .bf16 :=
  fun i => emb e w ⟨(i 2).val / 40, by have : (i 2).val < 200 := (i 2).isLt; omega⟩ (i 1)
    ⟨(i 0).val * 40 + (i 2).val % 40, by have : (i 0).val < 25 := (i 0).isLt; omega⟩

set_option maxHeartbeats 2000000 in
theorem out_blocks (x0 : Vec Ideal S1000x128 .f32) (x1 : Vec Ideal S5x128x64 .f32) (i : S25x64x200.Idx) :
    out0_2 x0 x1 i = blocks x0 x1 i := by
  unfold_out out0_2
  canon_tiles x h
  all_goals
    open_payloads
    pointwise [blocks, emb]
    refine Finset.sum_congr rfl fun k _ => ?_
    congr 1 <;> blk_ext

/-- Every window's one block starts at the origin. -/
theorem origin : ∀ t : Fin cfg0.N, win0_0.index t = ![0, 0] ∧ win0_1.index t = ![0, 0, 0] ∧ win0_2.index t = ![0, 0, 0] :=
  (by decide +kernel : ∀ t : Fin grid0.N, win0_0.index t = ![0, 0] ∧ win0_1.index t = ![0, 0, 0] ∧ win0_2.index t = ![0, 0, 0])

theorem blk0 (c : Dev nD) (t : Fin cfg0.N) : iblk0 V c 0 t = V c main_arg5 := by
  funext i; blk_ext [iblk0, origin t]

theorem blk1 (c : Dev nD) (t : Fin cfg0.N) : iblk0 V c 1 t = V c main_arg8 := by
  funext i; blk_ext [iblk0, origin t]

theorem final_blocks (c : Dev nD) : (dat0 V c).arrAt 2 cfg0.N =
    (blocks (V c main_arg5) (V c main_arg8) : FVec Ideal S25x64x200 .bf16) := by
  refine (dat0 V c).arrAt_eq_of_covers 2 _ (by decide +kernel) fun t hf y => ?_
  blk_simp
  rw [after0_2, out_blocks, blk0, blk1]
  exact congrArg _ (by blk_ext [origin t])

end Cert.KernelIdeal.K0
end
-- ==== Proof.K1Block.lean ====
/-
  One block of the first pass at an index: forty items of all five classes, read side by side as two hundred rows.
-/
module

public import proofs.«01_k».proof.Proof.Gen.KernelIdeal.Skeleton
public import Idealize.ShloMosaic.Lib.Pipeline.ValueKit
public import Idealize.ShloMosaic.PureOps.Ideal

@[expose] public section

set_option maxRecDepth 16384

noncomputable section

namespace Cert.KernelIdeal.K1

open Cert.KernelIdeal Cert.KernelIdeal.Gen
open Idealize.ShloMosaic Idealize.ShloMosaic.TcCoe Idealize.SL.Sem
open Idealize.ShloMosaic.Pipeline (Dat)

/-- The row of item `l` of class `c` among the two hundred rows of a block. -/
def row (c : Fin 5) (l : Fin 40) : Fin 200 := ⟨40 * c.val + l.val, by omega⟩

theorem sum_rows (f : Fin 200 → EReal) : ∑ j, f j = ∑ c : Fin 5, ∑ l : Fin 40, f (row c l) := by
  rw [← Finset.sum_product' (f := fun c l => f (row c l)), Finset.univ_product_univ]
  refine (Fintype.sum_equiv (finProdFinEquiv (m := 5) (n := 40)) _ _ fun p => ?_).symm
  exact congrArg f (Fin.ext (Nat.add_comm _ _))

/-- The five class blocks as one table. -/
def table (x0 x1 x2 x3 x4 : FVec Ideal S1x40x10000 .f32) (c : Fin 5) (l : Fin 40) (u : Fin 10000) : EReal :=
  match c with
  | 0 => x0 (ix3 0 l u)
  | 1 => x1 (ix3 0 l u)
  | 2 => x2 (ix3 0 l u)
  | 3 => x3 (ix3 0 l u)
  | 4 => x4 (ix3 0 l u)

/-- The messages: the ratings against the users' embeddings. -/
def msg (T : Fin 5 → Fin 40 → Fin 10000 → EReal) (e : FVec Ideal S10000x128 .bf16) (c : Fin 5) (l : Fin 40) (d : Fin 128) : EReal :=
  ∑ u : Fin 10000, T c l u * e (ix2 u d)

/-- Five blocks of forty rows joined: row `40 c + l` is row `l` of block `c`. -/
theorem joined (f0 f1 f2 f3 f4 : Fin 40 → EReal) (c : Fin 5) (l : Fin 40) :
    (if h : 40 * c.val + l.val < 40 then f0 ⟨40 * c.val + l.val, h⟩
      else if h : 40 * c.val + l.val - 40 < 40 then f1 ⟨40 * c.val + l.val - 40, h⟩
      else if h : 40 * c.val + l.val - 40 - 40 < 40 then f2 ⟨40 * c.val + l.val - 40 - 40, h⟩
      else if h : 40 * c.val + l.val - 40 - 40 - 40 < 40 then f3 ⟨40 * c.val + l.val - 40 - 40 - 40, h⟩
      else f4 ⟨40 * c.val + l.val - 40 - 40 - 40 - 40, by have := c.isLt; have := l.isLt; omega⟩)
      = match c with
        | 0 => f0 l
        | 1 => f1 l
        | 2 => f2 l
        | 3 => f3 l
        | 4 => f4 l := by
  have hl := l.isLt
  match c with
  | 0 => exact (dif_pos (show 40 * 0 + l.val < 40 by omega)).trans (congrArg f0 (Fin.ext (by simp)))
  | 1 =>
    simp only [Fin.val_one]
    rw [dif_neg (by omega), dif_pos (by omega)]
    exact congrArg f1 (Fin.ext (by simp))
  | 2 =>
    simp only [Fin.val_two]
    rw [dif_neg (by omega), dif_neg (by omega), dif_pos (by omega)]
    exact congrArg f2 (Fin.ext (by simp; omega))
  | 3 =>
    simp only [show ((3 : Fin 5) : ℕ) = 3 from rfl]
    rw [dif_neg (by omega), dif_neg (by omega), dif_neg (by omega), dif_pos (by omega)]
    exact congrArg f3 (Fin.ext (by simp; omega))
  | 4 =>
    simp only [show ((4 : Fin 5) : ℕ) = 4 from rfl]
    rw [dif_neg (by omega), dif_neg (by omega), dif_neg (by omega), dif_neg (by omega)]
    exact congrArg f4 (Fin.ext (by simp; omega))

/-- The items' hidden layer. -/
def hid (T : Fin 5 → Fin 40 → Fin 10000 → EReal) (e : FVec Ideal S10000x128 .bf16) (w : FVec Ideal S5x128x64 .f32)
    (b : FVec Ideal S1x64 .f32) (l : Fin 40) (h : Fin 64) : EReal :=
  max ((∑ c : Fin 5, ∑ d : Fin 128, msg T e c l d * w (ix3 c d h)) + b (ix2 0 h)) 0

section Block
variable (x0 x1 x2 x3 x4 : Vec Ideal S1x40x10000 .f32) (x5 : Vec Ideal S10000x128 .bf16) (x6 : Vec Ideal S5x128x64 .f32)
  (x7 : Vec Ideal S1x64 .f32) (x8 : Vec Ideal S5x32x64 .f32)

theorem rows_at (c : Fin 5) (l : Fin 40) (u : Fin 10000) :
    k1_pay4 x0 x1 x2 x3 x4 (ix2 (row c l) u) = table x0 x1 x2 x3 x4 c l u := by
  pointwise [k1_pay4, row]
  refine (joined (fun l => x0 (ix3 0 l u)) (fun l => x1 (ix3 0 l u)) (fun l => x2 (ix3 0 l u))
    (fun l => x3 (ix3 0 l u)) (fun l => x4 (ix3 0 l u)) c l).trans ?_
  match c with
  | 0 | 1 | 2 | 3 | 4 => rfl

theorem msg_at (c : Fin 5) (l : Fin 40) (d : Fin 128) :
    k1_pay5 x5 x0 x1 x2 x3 x4 (ix2 (row c l) d) = msg (table x0 x1 x2 x3 x4) x5 c l d := by
  unfold msg
  simp only [← rows_at]
  pointwise [k1_pay5]

/-- The printed hidden layer of a block. -/
abbrev hidden : FVec Ideal S64x40 .f32 :=
  k1_pay8 (k1_pay5 x5 x0 x1 x2 x3 x4)
    (k1_pay6 x5 x0 x1 x2 x3 x4
      (View.ld x6 (Rect.unit ![0, 0, 0] ![1, 128, 64] inb_S5x128x64_S1x128x64_0_0_0))
      (View.ld x6 (Rect.unit ![1, 0, 0] ![1, 128, 64] inb_S5x128x64_S1x128x64_1_0_0)))
    (View.ld x6 (Rect.unit ![2, 0, 0] ![1, 128, 64] inb_S5x128x64_S1x128x64_2_0_0))
    (View.ld x6 (Rect.unit ![3, 0, 0] ![1, 128, 64] inb_S5x128x64_S1x128x64_3_0_0))
    (View.ld x6 (Rect.unit ![4, 0, 0] ![1, 128, 64] inb_S5x128x64_S1x128x64_4_0_0)) x7

theorem hid_at (h : Fin 64) (l : Fin 40) :
    hidden x0 x1 x2 x3 x4 x5 x6 x7 (ix2 h l) = hid (table x0 x1 x2 x3 x4) x5 x6 x7 l h := by
  unfold hid
  simp only [← msg_at, Fin.sum_univ_five, row]
  pointwise [k1_pay8, k1_pay6]

/-- What a block adds to the users' accumulated pre-activation. -/
theorem pay7_at (acc : Vec Ideal S64x10000 .f32) (x9 : Vec Ideal S1x64x200 .bf16) (h : Fin 64) (u : Fin 10000) :
    k1_pay7 (k1_pay4 x0 x1 x2 x3 x4) acc x9 (ix2 h u) = acc (ix2 h u)
      + ∑ c : Fin 5, ∑ l : Fin 40, x9 (ix3 0 h (row c l)) * table x0 x1 x2 x3 x4 c l u := by
  simp only [← rows_at]
  rw [← sum_rows fun j => x9 (ix3 0 h j) * k1_pay4 x0 x1 x2 x3 x4 (ix2 j u)]
  pointwise [k1_pay7]

/-- The products of the items' hidden layer with one class' second weights. -/
def prod (T : Fin 5 → Fin 40 → Fin 10000 → EReal) (e : FVec Ideal S10000x128 .bf16) (w : FVec Ideal S5x128x64 .f32)
    (b : FVec Ideal S1x64 .f32) (w2 : FVec Ideal S5x32x64 .f32) (c : Fin 5) (k : Fin 32) (l : Fin 40) : EReal :=
  ∑ h : Fin 64, w2 (ix3 c k h) * hid T e w b l h

/-- What a block adds to the user vectors. -/
theorem pay1_at (acc : Vec Ideal S32x10000 .f32) (k : Fin 32) (u : Fin 10000) :
    k1_pay1 (k1_pay4 x0 x1 x2 x3 x4) (hidden x0 x1 x2 x3 x4 x5 x6 x7)
      (k1_pay9 (k1_pay5 x5 x0 x1 x2 x3 x4)
        (k1_pay6 x5 x0 x1 x2 x3 x4
          (View.ld x6 (Rect.unit ![0, 0, 0] ![1, 128, 64] inb_S5x128x64_S1x128x64_0_0_0))
          (View.ld x6 (Rect.unit ![1, 0, 0] ![1, 128, 64] inb_S5x128x64_S1x128x64_1_0_0)))
        (View.ld x6 (Rect.unit ![2, 0, 0] ![1, 128, 64] inb_S5x128x64_S1x128x64_2_0_0))
        (View.ld x6 (Rect.unit ![3, 0, 0] ![1, 128, 64] inb_S5x128x64_S1x128x64_3_0_0))
        (View.ld x6 (Rect.unit ![4, 0, 0] ![1, 128, 64] inb_S5x128x64_S1x128x64_4_0_0)) x7
        (View.ld x8 (Rect.unit ![0, 0, 0] ![1, 32, 64] inb_S5x32x64_S1x32x64_0_0_0)))
      (View.ld x8 (Rect.unit ![1, 0, 0] ![1, 32, 64] inb_S5x32x64_S1x32x64_1_0_0))
      (View.ld x8 (Rect.unit ![2, 0, 0] ![1, 32, 64] inb_S5x32x64_S1x32x64_2_0_0))
      (View.ld x8 (Rect.unit ![3, 0, 0] ![1, 32, 64] inb_S5x32x64_S1x32x64_3_0_0))
      (View.ld x8 (Rect.unit ![4, 0, 0] ![1, 32, 64] inb_S5x32x64_S1x32x64_4_0_0)) acc (ix2 k u)
      = acc (ix2 k u) + ∑ c : Fin 5, ∑ l : Fin 40,
        prod (table x0 x1 x2 x3 x4) x5 x6 x7 x8 c k l * table x0 x1 x2 x3 x4 c l u := by
  unfold prod
  simp only [← rows_at, ← hid_at]
  rw [Fin.sum_univ_five]
  generalize hH : hidden x0 x1 x2 x3 x4 x5 x6 x7 = H
  unfold k1_pay9
  unfold hidden at hH
  rw [hH]
  generalize k1_pay4 x0 x1 x2 x3 x4 = R
  pointwise [k1_pay1]
  refine congrArg (acc (ix2 k u) + ·) ?_
  refine (sum_rows _).trans ?_
  rw [Fin.sum_univ_five]
  have e (c : Fin 5) (l : Fin 40) := joined (fun l => ∑ h, x8 (ix3 0 k h) * H (ix2 h l))
    (fun l => ∑ h, x8 (ix3 1 k h) * H (ix2 h l)) (fun l => ∑ h, x8 (ix3 2 k h) * H (ix2 h l))
    (fun l => ∑ h, x8 (ix3 3 k h) * H (ix2 h l)) (fun l => ∑ h, x8 (ix3 4 k h) * H (ix2 h l)) c l
  have s (c : Fin 5) (f g : Fin 40 → EReal) (h : ∀ l, f l = g l) :
      ∑ l, f l * R (ix2 (row c l) u) = ∑ l, g l * R (ix2 (row c l) u) := by simp only [h]
  exact congrArg₂ (· + ·) (congrArg₂ (· + ·) (congrArg₂ (· + ·) (congrArg₂ (· + ·) (s 0 _ _ (e 0)) (s 1 _ _ (e 1)))
    (s 2 _ _ (e 2))) (s 3 _ _ (e 3))) (s 4 _ _ (e 4))

end Block
end Cert.KernelIdeal.K1
end
-- ==== Proof.K1.lean ====
/-
  The first pass: what it adds at a point, and the two arrays it leaves, sums over the classes and all the items.
-/
module

public import proofs.«01_k».proof.Proof.Gen.KernelIdeal.Frame.Region1
public import proofs.«01_k».proof.Proof.K1Block

@[expose] public section

set_option maxRecDepth 16384

noncomputable section

namespace Cert.KernelIdeal.K1

open Cert.KernelIdeal Cert.KernelIdeal.Gen
open Idealize.ShloMosaic Idealize.ShloMosaic.TcCoe Idealize.SL.Sem
open Idealize.ShloMosaic.Pipeline (Dat)

/-- An item's message in a class. -/
def msgV (r : FVec Ideal S5x1000x10000 .f32) (e : FVec Ideal S10000x128 .bf16) (c : Fin 5) (v : Fin 1000) (d : Fin 128) : EReal :=
  ∑ u : Fin 10000, r (ix3 c v u) * e (ix2 u d)

/-- An item's hidden layer. -/
def hidV (r : FVec Ideal S5x1000x10000 .f32) (e : FVec Ideal S10000x128 .bf16) (w : FVec Ideal S5x128x64 .f32)
    (b : FVec Ideal S1x64 .f32) (v : Fin 1000) (h : Fin 64) : EReal :=
  max ((∑ c : Fin 5, ∑ d : Fin 128, msgV r e c v d * w (ix3 c d h)) + b (ix2 0 h)) 0

/-- An item's hidden layer through one class' second weights. -/
def prodV (r : FVec Ideal S5x1000x10000 .f32) (e : FVec Ideal S10000x128 .bf16) (w : FVec Ideal S5x128x64 .f32)
    (b : FVec Ideal S1x64 .f32) (w2 : FVec Ideal S5x32x64 .f32) (c : Fin 5) (k : Fin 32) (v : Fin 1000) : EReal :=
  ∑ h : Fin 64, w2 (ix3 c k h) * hidV r e w b v h

/-- The user vectors, one column each. -/
def users (r : FVec Ideal S5x1000x10000 .f32) (e : FVec Ideal S10000x128 .bf16) (w : FVec Ideal S5x128x64 .f32)
    (b : FVec Ideal S1x64 .f32) (w2 : FVec Ideal S5x32x64 .f32) : FVec Ideal S32x10000 .f32 :=
  fun i => ∑ c : Fin 5, ∑ v : Fin 1000, prodV r e w b w2 c (i 0) v * r (ix3 c v (i 1))

/-- The users' pre-activation before its bias, one column each: products `E` of the items against the ratings. -/
def acts (r : FVec Ideal S5x1000x10000 .f32) (E : Fin 5 → Fin 64 → Fin 1000 → EReal) : FVec Ideal S64x10000 .f32 :=
  fun i => ∑ c : Fin 5, ∑ v : Fin 1000, E c (i 0) v * r (ix3 c v (i 1))

variable (V : (c : Dev nD) → (b : Ref sig .tc) → Buf (Elt Ideal) ((c : Thread nD τ).loc b))

/-- Where each window's block lies at a point. -/
theorem place : ∀ t : Fin cfg1.N, win1_0.index t = ![0, t.val, 0] ∧ win1_1.index t = ![1, t.val, 0] ∧ win1_2.index t = ![2, t.val, 0] ∧ win1_3.index t = ![3, t.val, 0] ∧ win1_4.index t = ![4, t.val, 0]
    ∧ win1_5.index t = ![0, 0] ∧ win1_6.index t = ![0, 0, 0] ∧ win1_7.index t = ![0, 0] ∧ win1_8.index t = ![0, 0, 0] ∧ win1_9.index t = ![t.val, 0, 0] :=
  (by decide +kernel : ∀ t : Fin grid1.N, win1_0.index t = ![0, t.val, 0] ∧ win1_1.index t = ![1, t.val, 0] ∧ win1_2.index t = ![2, t.val, 0] ∧ win1_3.index t = ![3, t.val, 0] ∧ win1_4.index t = ![4, t.val, 0]
    ∧ win1_5.index t = ![0, 0] ∧ win1_6.index t = ![0, 0, 0] ∧ win1_7.index t = ![0, 0] ∧ win1_8.index t = ![0, 0, 0] ∧ win1_9.index t = ![t.val, 0, 0])

/-- A point's item among all. -/
def item (t : Fin cfg1.N) (l : Fin 40) : Fin 1000 :=
  ⟨t.val * 40 + l.val, by have : t.val < 25 := t.isLt; omega⟩

theorem blk0 (c : Dev nD) (t : Fin cfg1.N) (l : Fin 40) (u : Fin 10000) :
    iblk1 V c 0 t (ix3 0 l u) = V c main_v0 (ix3 0 (item t l) u) := by blk_ext [iblk1, place t, item]
theorem blk1 (c : Dev nD) (t : Fin cfg1.N) (l : Fin 40) (u : Fin 10000) :
    iblk1 V c 1 t (ix3 0 l u) = V c main_v0 (ix3 1 (item t l) u) := by blk_ext [iblk1, place t, item]
theorem blk2 (c : Dev nD) (t : Fin cfg1.N) (l : Fin 40) (u : Fin 10000) :
    iblk1 V c 2 t (ix3 0 l u) = V c main_v0 (ix3 2 (item t l) u) := by blk_ext [iblk1, place t, item]
theorem blk3 (c : Dev nD) (t : Fin cfg1.N) (l : Fin 40) (u : Fin 10000) :
    iblk1 V c 3 t (ix3 0 l u) = V c main_v0 (ix3 3 (item t l) u) := by blk_ext [iblk1, place t, item]
theorem blk4 (c : Dev nD) (t : Fin cfg1.N) (l : Fin 40) (u : Fin 10000) :
    iblk1 V c 4 t (ix3 0 l u) = V c main_v0 (ix3 4 (item t l) u) := by blk_ext [iblk1, place t, item]
theorem blk5 (c : Dev nD) (t : Fin cfg1.N) : iblk1 V c 5 t = V c main_v1 := by
  funext i; blk_ext [iblk1, place t]
theorem blk6 (c : Dev nD) (t : Fin cfg1.N) : iblk1 V c 6 t = V c main_arg6 := by
  funext i; blk_ext [iblk1, place t]
theorem blk7 (c : Dev nD) (t : Fin cfg1.N) : iblk1 V c 7 t = V c main_v4 := by
  funext i; blk_ext [iblk1, place t]
theorem blk8 (c : Dev nD) (t : Fin cfg1.N) : iblk1 V c 8 t = V c main_v2 := by
  funext i; blk_ext [iblk1, place t]
theorem blk9 (c : Dev nD) (t : Fin cfg1.N) (h : Fin 64) (j : Fin 200) :
    iblk1 V c 9 t (ix3 0 h j) = V c main_v9 (ix3 (⟨t.val, t.isLt⟩ : Fin 25) h j) := by blk_ext [iblk1, place t]

/-- The point's table is the point's slice of the ratings. -/
theorem table_eq (c : Dev nD) (t : Fin cfg1.N) (k : Fin 5) (l : Fin 40) (u : Fin 10000) :
    table (iblk1 V c 0 t) (iblk1 V c 1 t) (iblk1 V c 2 t) (iblk1 V c 3 t) (iblk1 V c 4 t) k l u
      = V c main_v0 (ix3 k (item t l) u) :=
  match k with
  | 0 => blk0 V c t l u
  | 1 => blk1 V c t l u
  | 2 => blk2 V c t l u
  | 3 => blk3 V c t l u
  | 4 => blk4 V c t l u

/-- A point's addition to the user vectors. -/
def termZ (r : FVec Ideal S5x1000x10000 .f32) (e : FVec Ideal S10000x128 .bf16) (w : FVec Ideal S5x128x64 .f32)
    (b : FVec Ideal S1x64 .f32) (w2 : FVec Ideal S5x32x64 .f32) (t : Fin cfg1.N) (i : S32x10000.Idx) : EReal :=
  ∑ k : Fin 5, ∑ l : Fin 40, prodV r e w b w2 k (i 0) (item t l) * r (ix3 k (item t l) (i 1))

/-- A point's addition to the users' pre-activation. -/
def termA (r : FVec Ideal S5x1000x10000 .f32) (E : Fin 5 → Fin 64 → Fin 1000 → EReal) (t : Fin cfg1.N) (i : S64x10000.Idx) : EReal :=
  ∑ k : Fin 5, ∑ l : Fin 40, E k (i 0) (item t l) * r (ix3 k (item t l) (i 1))

/-- The products of a point, from its blocks, are those of its items. -/
theorem prod_eq (c : Dev nD) (t : Fin cfg1.N) (k : Fin 5) (j : Fin 32) (l : Fin 40) :
    prod (table (iblk1 V c 0 t) (iblk1 V c 1 t) (iblk1 V c 2 t) (iblk1 V c 3 t) (iblk1 V c 4 t)) (iblk1 V c 5 t)
        (iblk1 V c 6 t) (iblk1 V c 7 t) (iblk1 V c 8 t) k j l
      = prodV (V c main_v0) (V c main_v1) (V c main_arg6) (V c main_v4) (V c main_v2) k j (item t l) := by
  simp only [prod, prodV, hid, hidV, msg, msgV, table_eq, blk5, blk6, blk7, blk8]

section Sums
variable (c : Dev nD) (E : Fin 5 → Fin 64 → Fin 1000 → EReal)

theorem reset_z (t : Fin cfg1.N) (h0 : t.val % 25 = 0) (i : S32x10000.Idx) :
    (outsAt1 V c t.val t.isLt).1 i = 0 + termZ (V c main_v0) (V c main_v1) (V c main_arg6) (V c main_v4) (V c main_v2) t i := by
  rw [outsAt1_A V c t h0, eq_ix2 i]
  frame_out
  refine (pay1_at _ _ _ _ _ _ _ _ _ (k1_pay2 (F := Ideal)) (i 0) (i 1)).trans ?_
  exact congrArg₂ (· + ·) (by pointwise [k1_pay2]) (Finset.sum_congr rfl fun k _ => Finset.sum_congr rfl fun l _ =>
    congrArg₂ (· * ·) (prod_eq V c t k (i 0) l) (table_eq V c t k l (i 1)))

theorem step_z (t : Fin cfg1.N) (h0 : ¬t.val % 25 = 0) (i : S32x10000.Idx) :
    (outsAt1 V c t.val t.isLt).1 i = (outsAt1 V c (t.val - 1) (Nat.lt_of_le_of_lt (Nat.sub_le _ _) t.isLt)).1 i
      + termZ (V c main_v0) (V c main_v1) (V c main_arg6) (V c main_v4) (V c main_v2) t i := by
  rw [outsAt1_B V c t h0, eq_ix2 i]
  frame_out
  refine (pay1_at _ _ _ _ _ _ _ _ _ _ (i 0) (i 1)).trans ?_
  exact congrArg (_ + ·) (Finset.sum_congr rfl fun k _ => Finset.sum_congr rfl fun l _ =>
    congrArg₂ (· * ·) (prod_eq V c t k (i 0) l) (table_eq V c t k l (i 1)))

theorem reset_a (hE : ∀ (t : Fin cfg1.N) h k l, V c main_v9 (ix3 (⟨t.val, t.isLt⟩ : Fin 25) h (row k l)) = E k h (item t l))
    (t : Fin cfg1.N) (h0 : t.val % 25 = 0) (i : S64x10000.Idx) :
    (outsAt1 V c t.val t.isLt).2 i = 0 + termA (V c main_v0) E t i := by
  rw [outsAt1_A V c t h0, eq_ix2 i]
  frame_out
  refine (pay7_at _ _ _ _ _ (k1_pay3 (F := Ideal)) _ (i 0) (i 1)).trans ?_
  exact congrArg₂ (· + ·) (by pointwise [k1_pay3]) (Finset.sum_congr rfl fun k _ => Finset.sum_congr rfl fun l _ =>
    congrArg₂ (· * ·) ((blk9 V c t (i 0) (row k l)).trans (hE t (i 0) k l)) (table_eq V c t k l (i 1)))

theorem step_a (hE : ∀ (t : Fin cfg1.N) h k l, V c main_v9 (ix3 (⟨t.val, t.isLt⟩ : Fin 25) h (row k l)) = E k h (item t l))
    (t : Fin cfg1.N) (h0 : ¬t.val % 25 = 0) (i : S64x10000.Idx) :
    (outsAt1 V c t.val t.isLt).2 i = (outsAt1 V c (t.val - 1) (Nat.lt_of_le_of_lt (Nat.sub_le _ _) t.isLt)).2 i
      + termA (V c main_v0) E t i := by
  rw [outsAt1_B V c t h0, eq_ix2 i]
  frame_out
  refine (pay7_at _ _ _ _ _ _ _ (i 0) (i 1)).trans ?_
  exact congrArg (_ + ·) (Finset.sum_congr rfl fun k _ => Finset.sum_congr rfl fun l _ =>
    congrArg₂ (· * ·) ((blk9 V c t (i 0) (row k l)).trans (hE t (i 0) k l)) (table_eq V c t k l (i 1)))

/-- The points' items are all the items. -/
theorem over_items (f : Fin 5 → Fin 1000 → EReal) :
    ∑ t : Fin cfg1.N, ∑ k : Fin 5, ∑ l : Fin 40, f k (item t l) = ∑ k : Fin 5, ∑ v : Fin 1000, f k v := by
  rw [Finset.sum_comm]
  exact Finset.sum_congr rfl fun k _ => Fin.sum_mul_add_fin 25 40 (f k) rfl

/-- The last point. -/
def final : Fin cfg1.N := ⟨24, by decide⟩

theorem last_z (i : S32x10000.Idx) : (outsAt1 V c final.val final.isLt).1 i
    = users (V c main_v0) (V c main_v1) (V c main_arg6) (V c main_v4) (V c main_v2) i := by
  refine (Pipeline.eq_sum_fin_of_reset_step_apply_last (fun n h => (outsAt1 V c n h).1) 25 (fun _ => (0 : EReal))
    (termZ (V c main_v0) (V c main_v1) (V c main_arg6) (V c main_v4) (V c main_v2))
    (reset_z V c) (step_z V c) (by decide) final rfl i).trans ?_
  rw [zero_add]
  exact over_items fun k v => prodV (V c main_v0) (V c main_v1) (V c main_arg6) (V c main_v4) (V c main_v2) k (i 0) v
    * V c main_v0 (ix3 k v (i 1))

theorem last_a (hE : ∀ (t : Fin cfg1.N) h k l, V c main_v9 (ix3 (⟨t.val, t.isLt⟩ : Fin 25) h (row k l)) = E k h (item t l))
    (i : S64x10000.Idx) : (outsAt1 V c final.val final.isLt).2 i = acts (V c main_v0) E i := by
  refine (Pipeline.eq_sum_fin_of_reset_step_apply_last (fun n h => (outsAt1 V c n h).2) 25 (fun _ => (0 : EReal))
    (termA (V c main_v0) E) (reset_a V c E hE) (step_a V c E hE) (by decide) final rfl i).trans ?_
  rw [zero_add]
  exact over_items fun k v => E k (i 0) v * V c main_v0 (ix3 k v (i 1))

theorem final_z : (dat1 V c).arrAt 10 cfg1.N
    = (users (V c main_v0) (V c main_v1) (V c main_arg6) (V c main_v4) (V c main_v2) : FVec Ideal S32x10000 .f32) := by
  refine (dat1 V c).arrAt_eq_of_after_last 10 final (by decide +kernel) _ fun j => ?_
  blk_simp
  rw [after1_10]
  refine (last_z V c _).trans ?_
  rfl

theorem final_a (hE : ∀ (t : Fin cfg1.N) h k l, V c main_v9 (ix3 (⟨t.val, t.isLt⟩ : Fin 25) h (row k l)) = E k h (item t l)) :
    (dat1 V c).arrAt 11 cfg1.N = (acts (V c main_v0) E : FVec Ideal S64x10000 .f32) := by
  refine (dat1 V c).arrAt_eq_of_after_last 11 final (by decide +kernel) _ fun j => ?_
  blk_simp
  rw [after1_11]
  refine (last_a V c E hE _).trans ?_
  rfl

end Sums

end Cert.KernelIdeal.K1
end
-- ==== Proof.K2.lean ====
/-
  The middle kernel's two results at an index: the user-side products `p` and the transposed user vectors.
-/
module

public import proofs.«01_k».proof.Proof.Gen.KernelIdeal.Frame.Region2
public import Idealize.ShloMosaic.Lib.Pipeline.ValueKit
public import Idealize.ShloMosaic.PureOps.Ideal

@[expose] public section

set_option maxRecDepth 16384

noncomputable section

namespace Cert.KernelIdeal.K2

open Cert.KernelIdeal Cert.KernelIdeal.Gen
open Idealize.ShloMosaic Idealize.ShloMosaic.TcCoe Idealize.SL.Sem
open Idealize.ShloMosaic.Pipeline (Dat)

variable (V : (c : Dev nD) → (b : Ref sig .tc) → Buf (Elt Ideal) ((c : Thread nD τ).loc b))

/-- The relu of the accumulated user pre-activation. -/
def hid (acc : FVec Ideal S64x10000 .f32) (b : FVec Ideal S64x1 .f32) (h : Fin 64) (u : Fin 10000) : EReal :=
  max (acc (ix2 h u) + b (ix2 h 0)) 0

def prod (acc : FVec Ideal S64x10000 .f32) (b : FVec Ideal S64x1 .f32) (w : FVec Ideal S5x32x64 .f32) :
    FVec Ideal S5x10000x32 .f32 :=
  fun i => ∑ h : Fin 64, w (ix3 (i 0) (i 2) h) * hid acc b h (i 1)

theorem out_p (x0 : Vec Ideal S64x10000 .f32) (x1 : Vec Ideal S64x1 .f32) (x2 : Vec Ideal S5x32x64 .f32)
    (x3 : Vec Ideal S32x10000 .f32) (i : S5x10000x32.Idx) : out2_4 x0 x1 x2 x3 i = prod x0 x1 x2 i := by
  unfold_out out2_4
  canon_tiles x h
  all_goals
    pointwise [k2_pay1, k2_pay2, k2_pay4, k2_pay5, k2_pay6, k2_pay7, prod, hid]
    refine Finset.sum_congr rfl fun k _ => ?_
    congr 1
    · blk_ext
    · congr 2
      blk_ext

/-- The user vectors laid out user by user. -/
def swapped (z : FVec Ideal S32x10000 .f32) : FVec Ideal S10000x32 .f32 := fun i => z (ix2 (i 1) (i 0))

theorem out_z (x0 : Vec Ideal S64x10000 .f32) (x1 : Vec Ideal S64x1 .f32) (x2 : Vec Ideal S5x32x64 .f32)
    (x3 : Vec Ideal S32x10000 .f32) (i : S10000x32.Idx) : out2_5 x0 x1 x2 x3 i = swapped x3 i := by
  unfold_out out2_5
  frame_out
  pointwise [k2_pay3, swapped]

/-- Every window's one block starts at the origin. -/
theorem origin : ∀ t : Fin cfg2.N, win2_0.index t = ![0, 0] ∧ win2_1.index t = ![0, 0] ∧ win2_2.index t = ![0, 0, 0]
    ∧ win2_3.index t = ![0, 0] ∧ win2_4.index t = ![0, 0, 0] ∧ win2_5.index t = ![0, 0] :=
  (by decide +kernel : ∀ t : Fin grid2.N, win2_0.index t = ![0, 0] ∧ win2_1.index t = ![0, 0] ∧ win2_2.index t = ![0, 0, 0]
    ∧ win2_3.index t = ![0, 0] ∧ win2_4.index t = ![0, 0, 0] ∧ win2_5.index t = ![0, 0])

theorem blk0 (c : Dev nD) (t : Fin cfg2.N) : iblk2 V c 0 t = V c main_v10_1 := by
  funext i; blk_ext [iblk2, origin t]

theorem blk1 (c : Dev nD) (t : Fin cfg2.N) : iblk2 V c 1 t = V c main_v5 := by
  funext i; blk_ext [iblk2, origin t]

theorem blk2 (c : Dev nD) (t : Fin cfg2.N) : iblk2 V c 2 t = V c main_v3 := by
  funext i; blk_ext [iblk2, origin t]

theorem blk3 (c : Dev nD) (t : Fin cfg2.N) : iblk2 V c 3 t = V c main_v10_0 := by
  funext i; blk_ext [iblk2, origin t]

theorem final_p (c : Dev nD) : (dat2 V c).arrAt 4 cfg2.N = (prod (V c main_v10_1) (V c main_v5) (V c main_v3) :
    FVec Ideal S5x10000x32 .f32) := by
  refine (dat2 V c).arrAt_eq_of_covers 4 _ (by decide +kernel) fun t hf y => ?_
  blk_simp
  rw [after2_4, out_p, blk0, blk1, blk2]
  exact congrArg _ (by blk_ext [origin t])

theorem final_z (c : Dev nD) : (dat2 V c).arrAt 5 cfg2.N = (swapped (V c main_v10_0) : FVec Ideal S10000x32 .f32) := by
  refine (dat2 V c).arrAt_eq_of_covers 5 _ (by decide +kernel) fun t hf y => ?_
  blk_simp
  rw [after2_5, out_z, blk3]
  exact congrArg _ (by blk_ext [origin t])

end Cert.KernelIdeal.K2
end
-- ==== Proof.K3.lean ====
/-
  The second pass at an index: the item vectors, every block of forty items from its own slice of the ratings.
-/
module

public import proofs.«01_k».proof.Proof.Gen.KernelIdeal.Frame.Region3
public import Idealize.ShloMosaic.Lib.Pipeline.ValueKit
public import Idealize.ShloMosaic.PureOps.Ideal

@[expose] public section

set_option maxRecDepth 16384

noncomputable section

namespace Cert.KernelIdeal.K3

open Cert.KernelIdeal Cert.KernelIdeal.Gen
open Idealize.ShloMosaic Idealize.ShloMosaic.TcCoe Idealize.SL.Sem
open Idealize.ShloMosaic.Pipeline (Dat)

variable (V : (c : Dev nD) → (b : Ref sig .tc) → Buf (Elt Ideal) ((c : Thread nD τ).loc b))

/-- The item vectors: over classes and users, the transposed ratings times the user-side products. -/
def items (r : FVec Ideal S5x1000x10000 .f32) (p : FVec Ideal S5x10000x32 .f32) : FVec Ideal S1000x32 .f32 :=
  fun i => ∑ c : Fin 5, ∑ u : Fin 10000, r (ix3 c (i 0) u) * p (ix3 c u (i 1))

theorem out_z (x0 x1 x2 x3 x4 : Vec Ideal S1x40x10000 .f32) (x5 : Vec Ideal S5x10000x32 .f32) (i : S40x32.Idx) :
    out3_6 x0 x1 x2 x3 x4 x5 i = (∑ u : Fin 10000, x0 (ix3 0 (i 0) u) * x5 (ix3 0 u (i 1)))
      + (∑ u : Fin 10000, x1 (ix3 0 (i 0) u) * x5 (ix3 1 u (i 1)))
      + (∑ u : Fin 10000, x2 (ix3 0 (i 0) u) * x5 (ix3 2 u (i 1)))
      + (∑ u : Fin 10000, x3 (ix3 0 (i 0) u) * x5 (ix3 3 u (i 1)))
      + (∑ u : Fin 10000, x4 (ix3 0 (i 0) u) * x5 (ix3 4 u (i 1))) := by
  unfold out3_6
  frame_out
  pointwise [k3_pay1, k3_pay2]

/-- Where each window's block lies at a point. -/
theorem place : ∀ t : Fin cfg3.N, win3_0.index t = ![0, t.val, 0] ∧ win3_1.index t = ![1, t.val, 0]
    ∧ win3_2.index t = ![2, t.val, 0] ∧ win3_3.index t = ![3, t.val, 0] ∧ win3_4.index t = ![4, t.val, 0]
    ∧ win3_5.index t = ![0, 0, 0] ∧ win3_6.index t = ![t.val, 0] :=
  (by decide +kernel : ∀ t : Fin grid3.N, win3_0.index t = ![0, t.val, 0] ∧ win3_1.index t = ![1, t.val, 0]
    ∧ win3_2.index t = ![2, t.val, 0] ∧ win3_3.index t = ![3, t.val, 0] ∧ win3_4.index t = ![4, t.val, 0]
    ∧ win3_5.index t = ![0, 0, 0] ∧ win3_6.index t = ![t.val, 0])

/-- A point's item among all. -/
def item (t : Fin cfg3.N) (l : Fin 40) : Fin 1000 :=
  ⟨t.val * 40 + l.val, by have : t.val < 25 := t.isLt; omega⟩

theorem blk0 (c : Dev nD) (t : Fin cfg3.N) (l : Fin 40) (u : Fin 10000) :
    iblk3 V c 0 t (ix3 0 l u) = V c main_v0 (ix3 0 (item t l) u) := by blk_ext [iblk3, place t, item]
theorem blk1 (c : Dev nD) (t : Fin cfg3.N) (l : Fin 40) (u : Fin 10000) :
    iblk3 V c 1 t (ix3 0 l u) = V c main_v0 (ix3 1 (item t l) u) := by blk_ext [iblk3, place t, item]
theorem blk2 (c : Dev nD) (t : Fin cfg3.N) (l : Fin 40) (u : Fin 10000) :
    iblk3 V c 2 t (ix3 0 l u) = V c main_v0 (ix3 2 (item t l) u) := by blk_ext [iblk3, place t, item]
theorem blk3 (c : Dev nD) (t : Fin cfg3.N) (l : Fin 40) (u : Fin 10000) :
    iblk3 V c 3 t (ix3 0 l u) = V c main_v0 (ix3 3 (item t l) u) := by blk_ext [iblk3, place t, item]
theorem blk4 (c : Dev nD) (t : Fin cfg3.N) (l : Fin 40) (u : Fin 10000) :
    iblk3 V c 4 t (ix3 0 l u) = V c main_v0 (ix3 4 (item t l) u) := by blk_ext [iblk3, place t, item]
theorem blk5 (c : Dev nD) (t : Fin cfg3.N) : iblk3 V c 5 t = V c main_v11_0 := by
  funext i; blk_ext [iblk3, place t]

theorem sums (r : FVec Ideal S5x1000x10000 .f32) (p : FVec Ideal S5x10000x32 .f32) (v : Fin 1000) (k : Fin 32) :
    items r p (ix2 v k) = (∑ u : Fin 10000, r (ix3 0 v u) * p (ix3 0 u k))
      + (∑ u : Fin 10000, r (ix3 1 v u) * p (ix3 1 u k)) + (∑ u : Fin 10000, r (ix3 2 v u) * p (ix3 2 u k))
      + (∑ u : Fin 10000, r (ix3 3 v u) * p (ix3 3 u k)) + (∑ u : Fin 10000, r (ix3 4 v u) * p (ix3 4 u k)) :=
  Fin.sum_univ_five _

/-- What a point leaves for one of its items. -/
theorem point (c : Dev nD) (t : Fin cfg3.N) (l : Fin 40) (k : Fin 32) :
    out3_6 (iblk3 V c 0 t) (iblk3 V c 1 t) (iblk3 V c 2 t) (iblk3 V c 3 t) (iblk3 V c 4 t) (iblk3 V c 5 t) (ix2 l k)
      = items (V c main_v0) (V c main_v11_0) (ix2 (item t l) k) := by
  rw [out_z, sums, blk5]
  have e0 := blk0 V c t l
  have e1 := blk1 V c t l
  have e2 := blk2 V c t l
  have e3 := blk3 V c t l
  have e4 := blk4 V c t l
  simp only [e0, e1, e2, e3, e4, ix2]

theorem final_z (c : Dev nD) : (dat3 V c).arrAt 6 cfg3.N = (items (V c main_v0) (V c main_v11_0) : FVec Ideal S1000x32 .f32) := by
  refine (dat3 V c).arrAt_eq_of_covers 6 _ (by decide +kernel) fun t hf y => ?_
  blk_simp
  rw [after3_6, show (win3_6.blk t).view.emb y = ix2 (item t (y 0)) (y 1) from by blk_ext [place t, item]]
  exact (congrArg _ (eq_ix2 y)).trans (point V c t (y 0) (y 1))

end Cert.KernelIdeal.K3
end
-- ==== Proof.Decode.lean ====
/-
  What both programs compute from a table of scores and the labels: the mean cross entropy and the share of rows whose
  first best class is the label. Two small facts besides: an entry picked out of a list by zeros and a one, and the least
  place of the largest entry.
-/
module

public import Idealize.ShloMosaic.Lib.Pipeline.ValueKit
public import Idealize.ShloMosaic.Lib.SortNet.Extract
public import Idealize.ShloMosaic.PureOps.Ideal

@[expose] public section

noncomputable section

namespace Cert.Decode

open Idealize.ShloMosaic

/-- One where two words agree, zero elsewhere. -/
def hot (x y : BitVec 32) : EReal := if x = y then 1 else 0

theorem sitofp_hot (x y : BitVec 32) :
    (FloatOps.sitofp .f32 (BitVec.setWidth 32 (IntOp.cmpi .eq x y)) : Ideal .f32) = hot x y := by
  show ((((IntOp.cmpi .eq x y).setWidth 32).toInt : ℝ) : EReal) = hot x y
  unfold hot
  by_cases h : x = y
  · rw [if_pos h, show IntOp.cmpi .eq x y = 1#1 from by simp [IntOp.cmpi, h]]
    norm_num
  · rw [if_neg h, show IntOp.cmpi .eq x y = 0#1 from by
      show BitVec.ofBool (x == y) = 0#1
      rw [beq_eq_false_iff_ne.2 h]
      rfl]
    norm_num

theorem uitofp_hot (x y : BitVec 32) : (FloatOps.uitofp .f32 (IntOp.cmpi .eq x y) : Ideal .f32) = hot x y := by
  show (((IntOp.cmpi .eq x y).toNat : ℝ) : EReal) = hot x y
  unfold hot
  by_cases h : x = y <;> simp [IntOp.cmpi, h]

/-- The pattern of minus infinity. -/
theorem lowest : Ideal.ofBits FTy.f32 0xFF800000#32 = (⊥ : EReal) := by simp [Ideal.ofBits, Ideal.ieee]

/-- A row's largest entry. -/
def top (s : Fin 5 → EReal) : EReal := Finset.fold max ⊥ s Finset.univ

/-- The logarithm of a row's softmax. -/
def logp (s : Fin 5 → EReal) (l : Fin 5) : EReal := (s l - top s) - Ideal.log (∑ k, Ideal.exp (s k - top s))

/-- The number of rows as both programs write it. -/
def rows : EReal := Ideal.ofBits FTy.f32 0x44800000#32

/-- The mean cross entropy. -/
def loss (n : Fin 1024 → BitVec 32) (s : Fin 1024 → Fin 5 → EReal) : EReal :=
  -Ideal.div (∑ b, ∑ l : Fin 5, hot (n b) (BitVec.ofNat 32 l.val) * logp (s b) l) rows

/-- The share of rows at which a choice of classes agrees with the labels. -/
def share (n f : Fin 1024 → BitVec 32) : EReal := Ideal.div (∑ b, hot (f b) (n b)) rows

/-- The first place at which a row is largest. -/
def First (s : Fin 5 → EReal) (l : Fin 5) : Prop := ∀ k : Fin 5, s k < s l ∨ (s k = s l ∧ l.val ≤ k.val)

theorem top_eq (s : Fin 5 → EReal) (l : Fin 5) (h : First s l) : top s = s l := by
  refine le_antisymm ?_ ?_
  · refine (Finset.fold_max_le (s l)).2 ⟨bot_le, fun k _ => ?_⟩
    rcases h k with g | ⟨g, -⟩
    · exact g.le
    · exact g.le
  · exact (Finset.le_fold_max (s l)).2 (.inr ⟨l, Finset.mem_univ l, le_rfl⟩)

/-- The least of the places marked as largest is the first such. -/
theorem least_place (s : Fin 5 → EReal) (l : Fin 5) (h : First s l) :
    Finset.fold IntOp.minsi 2147483647#32 (fun k : Fin 5 => if s k = top s then BitVec.ofNat 32 k.val else 5#32) Finset.univ
      = BitVec.ofNat 32 l.val := by
  have small : ∀ k : Fin 5, (BitVec.ofNat 32 k.val).toInt = k.val := by decide
  have key (c : BitVec 32) := Finset.fold_op_rel_iff_and (r := fun (c w : BitVec 32) => c.toInt ≤ w.toInt) (op := IntOp.minsi)
    (fun {x y z} => by
      show x.toInt ≤ (IntOp.minsi y z).toInt ↔ _
      rw [SortNet.toInt_minsi]
      exact le_min_iff) (c := c) (b := 2147483647#32) (s := (Finset.univ : Finset (Fin 5)))
    (f := fun k : Fin 5 => if s k = top s then BitVec.ofNat 32 k.val else 5#32)
  generalize Finset.fold IntOp.minsi _ _ _ = w at key ⊢
  have e := top_eq s l h
  have lo : (l.val : ℤ) ≤ w.toInt := by
    rw [← small l]
    refine (key _).2 ⟨?_, fun k _ => ?_⟩
    · rw [small]
      have := l.isLt
      show (l.val : ℤ) ≤ 2147483647
      omega
    · rw [small]
      split
      · next g =>
        rw [small]
        rcases h k with g' | ⟨-, g'⟩
        · exact absurd (g.trans e) g'.ne
        · exact Int.ofNat_le.2 g'
      · have := l.isLt
        show (l.val : ℤ) ≤ 5
        omega
  have hi : w.toInt ≤ l.val := by
    have := ((key w).1 (le_refl w.toInt)).2 l (Finset.mem_univ l)
    rwa [if_pos e.symm, small] at this
  exact BitVec.eq_of_toInt_eq ((le_antisymm hi lo).trans (small l).symm)

/-- A list against zeros and one one, in a block of thousand that begins at `o`: the entry marked, when it is in the block. -/
theorem pick (o n : ℕ) (hn : n < 10000) (ho : o + 1000 ≤ 10000) (f : Fin 10000 → EReal) :
    ∑ x : Fin 1000, hot (BitVec.ofNat 32 n) (IntOp.addi (BitVec.ofNat 32 x.val) (BitVec.ofNat 32 o))
        * f ⟨o + x.val, by omega⟩
      = if o ≤ n ∧ n < o + 1000 then f ⟨n, hn⟩ else 0 := by
  have e (x : Fin 1000) : hot (BitVec.ofNat 32 n) (IntOp.addi (BitVec.ofNat 32 x.val) (BitVec.ofNat 32 o))
      = if n = o + x.val then 1 else 0 := by
    unfold hot
    refine if_congr ?_ rfl rfl
    show BitVec.ofNat 32 n = BitVec.ofNat 32 x.val + BitVec.ofNat 32 o ↔ _
    have hx := x.isLt
    rw [← BitVec.ofNat_add, ← BitVec.toNat_inj, BitVec.toNat_ofNat, BitVec.toNat_ofNat, Nat.mod_eq_of_lt (by omega),
      Nat.mod_eq_of_lt (by omega)]
    omega
  simp only [e]
  split
  · next h =>
    rw [Finset.sum_eq_single (⟨n - o, by omega⟩ : Fin 1000)]
    · rw [if_pos (by show n = o + (n - o); omega), one_mul]
      exact congrArg f (Fin.ext (by show o + (n - o) = n; omega))
    · intro x _ hx
      rw [if_neg fun g => hx (Fin.ext (by show x.val = n - o; omega)), zero_mul]
    · exact fun g => absurd (Finset.mem_univ _) g
  · next h =>
    refine Finset.sum_eq_zero fun x _ => ?_
    have hx := x.isLt
    rw [if_neg (by omega), zero_mul]

/-- The same over one block, the whole list. -/
theorem pick_one (n : ℕ) (hn : n < 1000) (f : Fin 1000 → EReal) :
    ∑ x : Fin 1000, hot (BitVec.ofNat 32 n) (BitVec.ofNat 32 x.val) * f x = f ⟨n, hn⟩ := by
  have e (x : Fin 1000) : hot (BitVec.ofNat 32 n) (BitVec.ofNat 32 x.val) = if n = x.val then 1 else 0 := by
    unfold hot
    refine if_congr ?_ rfl rfl
    have hx := x.isLt
    rw [← BitVec.toNat_inj, BitVec.toNat_ofNat, BitVec.toNat_ofNat, Nat.mod_eq_of_lt (by omega), Nat.mod_eq_of_lt (by omega)]
  simp only [e]
  rw [Finset.sum_eq_single (⟨n, hn⟩ : Fin 1000)]
  · rw [if_pos rfl, one_mul]
  · intro x _ hx
    rw [if_neg fun g => hx (Fin.ext g.symm), zero_mul]
  · exact fun g => absurd (Finset.mem_univ _) g

/-- The ten blocks together: the entry marked. -/
theorem pick_all (n : ℕ) (hn : n < 10000) (f : Fin 10000 → EReal) :
    (if 0 ≤ n ∧ n < 0 + 1000 then f ⟨n, hn⟩ else 0) + (if 1000 ≤ n ∧ n < 1000 + 1000 then f ⟨n, hn⟩ else 0)
      + (if 2000 ≤ n ∧ n < 2000 + 1000 then f ⟨n, hn⟩ else 0) + (if 3000 ≤ n ∧ n < 3000 + 1000 then f ⟨n, hn⟩ else 0)
      + (if 4000 ≤ n ∧ n < 4000 + 1000 then f ⟨n, hn⟩ else 0) + (if 5000 ≤ n ∧ n < 5000 + 1000 then f ⟨n, hn⟩ else 0)
      + (if 6000 ≤ n ∧ n < 6000 + 1000 then f ⟨n, hn⟩ else 0) + (if 7000 ≤ n ∧ n < 7000 + 1000 then f ⟨n, hn⟩ else 0)
      + (if 8000 ≤ n ∧ n < 8000 + 1000 then f ⟨n, hn⟩ else 0) + (if 9000 ≤ n ∧ n < 9000 + 1000 then f ⟨n, hn⟩ else 0)
      = f ⟨n, hn⟩ := by
  have hq : n / 1000 < 10 := by omega
  have e (o : ℕ) : (o * 1000 ≤ n ∧ n < o * 1000 + 1000) ↔ n / 1000 = o := by omega
  simp only [show (0 ≤ n ∧ n < 0 + 1000) ↔ n / 1000 = 0 from by omega, e 1, e 2, e 3, e 4, e 5, e 6, e 7, e 8, e 9,
    show (1000 ≤ n ∧ n < 1000 + 1000) ↔ n / 1000 = 1 from e 1, show (2000 ≤ n ∧ n < 2000 + 1000) ↔ n / 1000 = 2 from e 2,
    show (3000 ≤ n ∧ n < 3000 + 1000) ↔ n / 1000 = 3 from e 3, show (4000 ≤ n ∧ n < 4000 + 1000) ↔ n / 1000 = 4 from e 4,
    show (5000 ≤ n ∧ n < 5000 + 1000) ↔ n / 1000 = 5 from e 5, show (6000 ≤ n ∧ n < 6000 + 1000) ↔ n / 1000 = 6 from e 6,
    show (7000 ≤ n ∧ n < 7000 + 1000) ↔ n / 1000 = 7 from e 7, show (8000 ≤ n ∧ n < 8000 + 1000) ↔ n / 1000 = 8 from e 8,
    show (9000 ≤ n ∧ n < 9000 + 1000) ↔ n / 1000 = 9 from e 9]
  generalize f ⟨n, hn⟩ = y
  generalize n / 1000 = q at hq
  interval_cases q <;> simp

end Cert.Decode
end
-- ==== Proof.K4.lean ====
/-
  The decoder's launch at an index: the looked-up rows, the scores, the loss and the share of rows that the scores label right.
-/
module

public import proofs.«01_k».proof.Proof.Gen.KernelIdeal.Frame.Region4
public import proofs.«01_k».proof.Proof.Decode
public import Idealize.ShloMosaic.Lib.Pipeline.ValueKit
public import Idealize.ShloMosaic.PureOps.Ideal

@[expose] public section

set_option maxRecDepth 16384

noncomputable section

namespace Cert.KernelIdeal.K4

open Cert.KernelIdeal Cert.KernelIdeal.Gen
open Idealize.ShloMosaic Idealize.ShloMosaic.TcCoe Idealize.SL.Sem
open Idealize.ShloMosaic.Pipeline (Dat)

variable (x0 : Vec Ideal S10000x32 .f32) (x1 : Vec Ideal S1000x32 .f32) (x2 x3 x4 : Vec Ideal S1024x1 .i32)
  (x5 : Vec Ideal S5x32x32 .f32)

/-- A score: one row's code through a class' matrix against the other row's code. -/
def score (q : FVec Ideal S5x32x32 .f32) (zu zv : Fin 32 → EReal) (l : Fin 5) : EReal :=
  ∑ j : Fin 32, (∑ i : Fin 32, zu i * q (ix3 l i j)) * zv j

/-- The item's code that is looked up. -/
theorem item_at (b : Fin 1024) (k : Fin 32) (n : ℕ) (hn : n < 1000) (h : x3 (ix2 b 0) = BitVec.ofNat 32 n) :
    k4_pay19 x0 x1 x2 x3 x4 x5 (ix2 b k) = x1 (ix2 ⟨n, hn⟩ k) := by
  pointwise [k4_pay19, k4_pay9]
  simp only [Decode.sitofp_hot, h]
  exact Decode.pick_one n hn fun m => x1 (ix2 m k)

/-- The user's code that is looked up, block by block. -/
theorem user_at (b : Fin 1024) (k : Fin 32) (n : ℕ) (hn : n < 10000) (h : x2 (ix2 b 0) = BitVec.ofNat 32 n) :
    k4_pay18 x0 x1 x2 x3 x4 x5 (ix2 b k) = x0 (ix2 ⟨n, hn⟩ k) := by
  pointwise [k4_pay18, k4_pay8, k4_pay17, k4_pay7, k4_pay16, k4_pay6, k4_pay5, k4_pay4, k4_pay3]
  simp only [Decode.sitofp_hot, h]
  refine Eq.trans ?_ (Decode.pick_all n hn fun m => x0 (ix2 m k))
  have e (o : ℕ) (ho : o + 1000 ≤ 10000) := Decode.pick o n hn ho fun m => x0 (ix2 m k)
  refine congrArg₂ (· + ·) (congrArg₂ (· + ·) (congrArg₂ (· + ·) (congrArg₂ (· + ·) (congrArg₂ (· + ·) (congrArg₂ (· + ·)
    (congrArg₂ (· + ·) (congrArg₂ (· + ·) (congrArg₂ (· + ·) (Eq.trans ?_ (e 0 (by omega))) (e 1000 (by omega)))
    (e 2000 (by omega))) (e 3000 (by omega))) (e 4000 (by omega))) (e 5000 (by omega))) (e 6000 (by omega)))
    (e 7000 (by omega))) (e 8000 (by omega))) (e 9000 (by omega))
  exact Finset.sum_congr rfl fun x _ => congrArg (_ * ·) (congrArg (fun m => x0 (ix2 m k)) (Fin.ext (Nat.zero_add _).symm))

theorem column0 (a : FVec Ideal S1024x32 .f32) (g : IVec S1024x1000 32) (y y' : Vec Ideal S1024x1 .i32) (z z' : Vec Ideal S1000x32 .f32)
    (b : Fin 1024) : k4_pay10 a g y z y' z' (View.ld x5 r4_12) (ix2 b 0)
      = score x5 (fun i => k4_pay8 a g y z (ix2 b i)) (fun j => k4_pay9 y' z' (ix2 b j)) 0 := by
  unfold k4_pay10
  generalize k4_pay8 a g y z = zu
  generalize k4_pay9 y' z' = zv
  pointwise [score]

theorem column1 (a : FVec Ideal S1024x32 .f32) (g : IVec S1024x1000 32) (y y' : Vec Ideal S1024x1 .i32) (z z' : Vec Ideal S1000x32 .f32)
    (b : Fin 1024) : k4_pay11 a g y z y' z' (View.ld x5 r4_13) (ix2 b 0)
      = score x5 (fun i => k4_pay8 a g y z (ix2 b i)) (fun j => k4_pay9 y' z' (ix2 b j)) 1 := by
  unfold k4_pay11
  generalize k4_pay8 a g y z = zu
  generalize k4_pay9 y' z' = zv
  pointwise [score]

theorem column2 (a : FVec Ideal S1024x32 .f32) (g : IVec S1024x1000 32) (y y' : Vec Ideal S1024x1 .i32) (z z' : Vec Ideal S1000x32 .f32)
    (b : Fin 1024) : k4_pay12 a g y z y' z' (View.ld x5 r4_14) (ix2 b 0)
      = score x5 (fun i => k4_pay8 a g y z (ix2 b i)) (fun j => k4_pay9 y' z' (ix2 b j)) 2 := by
  unfold k4_pay12
  generalize k4_pay8 a g y z = zu
  generalize k4_pay9 y' z' = zv
  pointwise [score]

/-- The decoder's scores. -/
abbrev table : FVec Ideal S1024x5 .f32 :=
  k4_pay13 (k4_pay18 x0 x1 x2 x3 x4 x5) (k4_pay19 x0 x1 x2 x3 x4 x5) (k4_pay20 x0 x1 x2 x3 x4 x5) (k4_pay21 x0 x1 x2 x3 x4 x5)
    (k4_pay22 x0 x1 x2 x3 x4 x5) (View.ld x5 r4_15) (View.ld x5 r4_16)

theorem joined (zu zv : FVec Ideal S1024x32 .f32) (a0 a1 a2 : FVec Ideal S1024x1 .f32) (b : Fin 1024) (l : Fin 5)
    (h0 : a0 (ix2 b 0) = score x5 (fun i => zu (ix2 b i)) (fun j => zv (ix2 b j)) 0)
    (h1 : a1 (ix2 b 0) = score x5 (fun i => zu (ix2 b i)) (fun j => zv (ix2 b j)) 1)
    (h2 : a2 (ix2 b 0) = score x5 (fun i => zu (ix2 b i)) (fun j => zv (ix2 b j)) 2) :
    k4_pay13 zu zv a0 a1 a2 (View.ld x5 r4_15) (View.ld x5 r4_16) (ix2 b l)
      = score x5 (fun i => zu (ix2 b i)) (fun j => zv (ix2 b j)) l := by
  pointwise [k4_pay13]
  match l with
  | 0 => exact h0
  | 1 => exact h1
  | 2 => exact h2
  | 3 => rfl
  | 4 => rfl

theorem table_at (b : Fin 1024) (l : Fin 5) : table x0 x1 x2 x3 x4 x5 (ix2 b l)
    = score x5 (fun i => k4_pay18 x0 x1 x2 x3 x4 x5 (ix2 b i)) (fun j => k4_pay19 x0 x1 x2 x3 x4 x5 (ix2 b j)) l :=
  joined x5 _ _ _ _ _ b l (column0 x5 _ _ _ _ _ _ b) (column1 x5 _ _ _ _ _ _ b) (column2 x5 _ _ _ _ _ _ b)

/-- The largest score of a row. -/
theorem pay14_at (zu zv : FVec Ideal S1024x32 .f32) (a0 a1 a2 : FVec Ideal S1024x1 .f32) (y z : Vec Ideal S1x32x32 .f32) (b : Fin 1024) :
    k4_pay14 zu zv a0 a1 a2 y z (ix2 b 0) = Decode.top fun l => k4_pay13 zu zv a0 a1 a2 y z (ix2 b l) := by
  unfold k4_pay14
  generalize k4_pay13 zu zv a0 a1 a2 y z = s
  pointwise []
  rw [Decode.lowest]
  rfl

/-- The mean before its sign is turned. -/
theorem pay1_at (zu zv : FVec Ideal S1024x32 .f32) (a0 a1 a2 : FVec Ideal S1024x1 .f32) (y z : Vec Ideal S1x32x32 .f32) :
    k4_pay1 (k4_pay15 zu zv a0 a1 a2 y z x4) (ix2 0 0)
      = Decode.loss (fun b => x4 (ix2 b 0)) fun b l => k4_pay13 zu zv a0 a1 a2 y z (ix2 b l) := by
  unfold k4_pay15
  have e := pay14_at zu zv a0 a1 a2 y z
  generalize k4_pay13 zu zv a0 a1 a2 y z = s at e ⊢
  generalize k4_pay14 zu zv a0 a1 a2 y z = t at e ⊢
  pointwise [k4_pay1]
  simp only [Decode.sitofp_hot, e]
  exact zero_sub _

/-- The share of rows whose least best place is the label. -/
theorem pay2_at (s : FVec Ideal S1024x5 .f32) (a : FVec Ideal S1024x1 .f32) (ha : ∀ b, a (ix2 b 0) = Decode.top fun l => s (ix2 b l))
    (f : Fin 1024 → Fin 5) (hf : ∀ b, Decode.First (fun l => s (ix2 b l)) (f b)) :
    k4_pay2 s a (iota .tc S1024x5 32 [1] iota_S1024x5_d1_w32) x4 (ix2 0 0)
      = Decode.share (fun b => x4 (ix2 b 0)) fun b => BitVec.ofNat 32 (f b).val := by
  pointwise [k4_pay2]
  simp only [Decode.sitofp_hot, ha]
  simp only [fun b => Decode.least_place (fun l => s (ix2 b l)) (f b) (hf b), Fin.sum_univ_one]
  rfl

theorem ones (i : S1x1.Idx) : i = ix2 0 0 := by
  funext a
  match a with
  | ⟨0, _⟩ => exact Subsingleton.elim (α := Fin 1) _ _
  | ⟨1, _⟩ => exact Subsingleton.elim (α := Fin 1) _ _

theorem out_loss : out4_7 x0 x1 x2 x3 x4 x5 = fun _ => Decode.loss (fun b => x4 (ix2 b 0)) fun b l => table x0 x1 x2 x3 x4 x5 (ix2 b l) := by
  funext i
  rw [ones i]
  unfold out4_7
  frame_out
  exact pay1_at x4 _ _ _ _ _ _ _

theorem out_share (f : Fin 1024 → Fin 5) (hf : ∀ b, Decode.First (fun l => table x0 x1 x2 x3 x4 x5 (ix2 b l)) (f b)) :
    out4_8 x0 x1 x2 x3 x4 x5 = fun _ => Decode.share (fun b => x4 (ix2 b 0)) fun b => BitVec.ofNat 32 (f b).val := by
  funext i
  rw [ones i]
  unfold out4_8
  frame_out
  exact pay2_at x4 _ _ (pay14_at _ _ _ _ _ _ _) f hf

/-! The launch's blocks and what it leaves. -/

variable (V : (c : Dev nD) → (b : Ref sig .tc) → Buf (Elt Ideal) ((c : Thread nD τ).loc b)) (c : Dev nD)

theorem origin : ∀ t : Fin cfg4.N, win4_0.index t = ![0, 0] ∧ win4_1.index t = ![0, 0] ∧ win4_2.index t = ![0, 0] ∧ win4_3.index t = ![0, 0] ∧ win4_4.index t = ![0, 0] ∧ win4_5.index t = ![0, 0, 0] ∧ win4_6.index t = ![0, 0] ∧ win4_7.index t = ![0, 0] ∧ win4_8.index t = ![0, 0] :=
  (by decide +kernel : ∀ t : Fin grid4.N, win4_0.index t = ![0, 0] ∧ win4_1.index t = ![0, 0] ∧ win4_2.index t = ![0, 0] ∧ win4_3.index t = ![0, 0] ∧ win4_4.index t = ![0, 0] ∧ win4_5.index t = ![0, 0, 0] ∧ win4_6.index t = ![0, 0] ∧ win4_7.index t = ![0, 0] ∧ win4_8.index t = ![0, 0])

theorem blk0 (t : Fin cfg4.N) : iblk4 V c 0 t = V c main_v11_1 := by
  funext i; blk_ext [iblk4, origin t]
theorem blk1 (t : Fin cfg4.N) : iblk4 V c 1 t = V c main_v12 := by
  funext i; blk_ext [iblk4, origin t]
theorem blk2 (t : Fin cfg4.N) : iblk4 V c 2 t = V c main_v6 := by
  funext i; blk_ext [iblk4, origin t]
theorem blk3 (t : Fin cfg4.N) : iblk4 V c 3 t = V c main_v7 := by
  funext i; blk_ext [iblk4, origin t]
theorem blk4 (t : Fin cfg4.N) : iblk4 V c 4 t = V c main_v8 := by
  funext i; blk_ext [iblk4, origin t]
theorem blk5 (t : Fin cfg4.N) : iblk4 V c 5 t = V c main_arg12 := by
  funext i; blk_ext [iblk4, origin t]

/-- The scores as the launch leaves them. -/
theorem final_scores : (dat4 V c).arrAt 6 cfg4.N = (table (V c main_v11_1) (V c main_v12) (V c main_v6) (V c main_v7) (V c main_v8) (V c main_arg12) : FVec Ideal S1024x5 .f32) := by
  refine (dat4 V c).arrAt_eq_of_covers 6 _ (by decide +kernel) fun t hf y => ?_
  blk_simp
  rw [after4_6, blk0, blk1, blk2, blk3, blk4, blk5]
  unfold out4_6
  frame_out
  exact congrArg _ (by blk_ext [origin t])

/-- The loss, as the launch leaves it. -/
theorem final_loss : (dat4 V c).arrAt 7 cfg4.N = (fun _ => Decode.loss (fun b => V c main_v8 (ix2 b 0))
    fun b l => table (V c main_v11_1) (V c main_v12) (V c main_v6) (V c main_v7) (V c main_v8) (V c main_arg12) (ix2 b l) : FVec Ideal S1x1 .f32) := by
  refine (dat4 V c).arrAt_eq_of_covers 7 _ (by decide +kernel) fun t hf y => ?_
  blk_simp
  rw [after4_7, blk0, blk1, blk2, blk3, blk4, blk5, out_loss]

/-- The accuracy, as the launch leaves it. -/
theorem final_share (f : Fin 1024 → Fin 5) (hf : ∀ b, Decode.First (fun l => table (V c main_v11_1) (V c main_v12) (V c main_v6) (V c main_v7) (V c main_v8) (V c main_arg12) (ix2 b l)) (f b)) :
    (dat4 V c).arrAt 8 cfg4.N = (fun _ => Decode.share (fun b => V c main_v8 (ix2 b 0))
      fun b => BitVec.ofNat 32 (f b).val : FVec Ideal S1x1 .f32) := by
  refine (dat4 V c).arrAt_eq_of_covers 8 _ (by decide +kernel) fun t _ y => ?_
  blk_simp
  rw [after4_8, blk0, blk1, blk2, blk3, blk4, blk5, out_share _ _ _ _ _ _ f hf]

end Cert.KernelIdeal.K4
end
-- ==== Proof.Chain.lean ====
/-
  The launches one after another: what each reads of the ones before it, down to the arguments.
-/
module

public import proofs.«01_k».proof.Proof.Gen.KernelIdeal.Frame
public import proofs.«01_k».proof.Proof.K0
public import proofs.«01_k».proof.Proof.K1
public import proofs.«01_k».proof.Proof.K2
public import proofs.«01_k».proof.Proof.K3
public import proofs.«01_k».proof.Proof.K4
public import Idealize.ShloMosaic.Lib.Claim
public import Idealize.ShloMosaic.Lib.Pipeline.ValueKit
public import Idealize.ShloMosaic.PureOps.Ideal

@[expose] public section

set_option maxRecDepth 16384

noncomputable section

namespace Cert.KernelIdeal.Chain

open Cert.KernelIdeal Cert.KernelIdeal.Gen
open Idealize.ShloMosaic Idealize.ShloMosaic.TcCoe Idealize.ShloMosaic.Tactic Idealize.SL.Sem

variable (m : (ℓ : Loc nD τ sig) → Buf (Elt Ideal) ℓ) (ρ : Dev nD → PrngReg) (c : Dev nD)

/-! ## The arrays prepared before the first launch -/

/-- The ratings with users and items exchanged. -/
theorem ratings_at (k : Fin 5) (v : Fin 1000) (u : Fin 10000) :
    V1 m ρ c main_v0 (ix3 k v u) = m ((c : Thread nD τ).loc main_arg3) (ix3 k u v) := by
  show StableHlo.after hostOps0 (W0 m ρ c) main_v0 (ix3 k v u) = _
  entry_read
  pointwise []

/-- The user embeddings; the cast to a shorter format changes nothing over the extended reals. -/
theorem users_at (i : S10000x128.Idx) : V1 m ρ c main_v1 i = m ((c : Thread nD τ).loc main_arg4) i := by
  show StableHlo.after hostOps0 (W0 m ρ c) main_v1 i = _
  entry_read
  pointwise []

/-- The second weights of the item side, transposed class by class. -/
theorem second_u_at (k : Fin 5) (j : Fin 32) (h : Fin 64) :
    V1 m ρ c main_v2 (ix3 k j h) = m ((c : Thread nD τ).loc main_arg10) (ix3 k h j) := by
  show StableHlo.after hostOps0 (W0 m ρ c) main_v2 (ix3 k j h) = _
  entry_read
  pointwise []

/-- The second weights of the user side, transposed class by class. -/
theorem second_v_at (k : Fin 5) (j : Fin 32) (h : Fin 64) :
    V1 m ρ c main_v3 (ix3 k j h) = m ((c : Thread nD τ).loc main_arg11) (ix3 k h j) := by
  show StableHlo.after hostOps0 (W0 m ρ c) main_v3 (ix3 k j h) = _
  entry_read
  pointwise []

/-- The item side's bias as a row. -/
theorem bias_u_at (h : Fin 64) : V1 m ρ c main_v4 (ix2 0 h) = m ((c : Thread nD τ).loc main_arg7) (ix1 h) := by
  show StableHlo.after hostOps0 (W0 m ρ c) main_v4 (ix2 0 h) = _
  entry_read
  pointwise []

/-- The user side's bias as a column. -/
theorem bias_v_at (h : Fin 64) : V1 m ρ c main_v5 (ix2 h 0) = m ((c : Thread nD τ).loc main_arg9) (ix1 h) := by
  show StableHlo.after hostOps0 (W0 m ρ c) main_v5 (ix2 h 0) = _
  entry_read
  pointwise []

/-- The users to look up, as a column. -/
theorem u_at (b : Fin 1024) : V1 m ρ c main_v6 (ix2 b 0) = m ((c : Thread nD τ).loc main_arg0) (ix1 b) := by
  show StableHlo.after hostOps0 (W0 m ρ c) main_v6 (ix2 b 0) = _
  entry_read
  pointwise []

/-- The items to look up, as a column. -/
theorem v_at (b : Fin 1024) : V1 m ρ c main_v7 (ix2 b 0) = m ((c : Thread nD τ).loc main_arg1) (ix1 b) := by
  show StableHlo.after hostOps0 (W0 m ρ c) main_v7 (ix2 b 0) = _
  entry_read
  pointwise []

/-- The labels, as a column. -/
theorem n_at (b : Fin 1024) : V1 m ρ c main_v8 (ix2 b 0) = m ((c : Thread nD τ).loc main_arg2) (ix1 b) := by
  show StableHlo.after hostOps0 (W0 m ρ c) main_v8 (ix2 b 0) = _
  entry_read
  pointwise []

/-! ## The launches -/

/-- The first launch: the item embeddings through the first weights, block by block. -/
theorem embedded : V2 m ρ c main_v9
    = K0.blocks (m ((c : Thread nD τ).loc main_arg5)) (m ((c : Thread nD τ).loc main_arg8)) := by
  refine (W2_arr m ρ c 2).trans ((K0.final_blocks (V1 m ρ) c).trans ?_)
  exact congrArg₂ K0.blocks (W1_args m ρ c main_arg5 (by decide)) (W1_args m ρ c main_arg8 (by decide))

/-- A block's column names an item and a class. -/
theorem embedded_at (t : Fin cfg1.N) (h : Fin 64) (k : Fin 5) (l : Fin 40) :
    V2 m ρ c main_v9 (ix3 (⟨t.val, t.isLt⟩ : Fin 25) h (K1.row k l))
      = K0.emb (m ((c : Thread nD τ).loc main_arg5)) (m ((c : Thread nD τ).loc main_arg8)) k h (K1.item t l) := by
  rw [embedded]
  show K0.emb _ _ (⟨(40 * k.val + l.val) / 40, _⟩ : Fin 5) h (⟨t.val * 40 + (40 * k.val + l.val) % 40, _⟩ : Fin 1000) = _
  have e1 : (⟨(40 * k.val + l.val) / 40, by omega⟩ : Fin 5) = k := Fin.ext (by show (40 * k.val + l.val) / 40 = k.val; omega)
  have e2 : (⟨t.val * 40 + (40 * k.val + l.val) % 40, by have : t.val < 25 := t.isLt; omega⟩ : Fin 1000) = K1.item t l :=
    Fin.ext (by show t.val * 40 + (40 * k.val + l.val) % 40 = t.val * 40 + l.val; omega)
  rw [e1, e2]

/-- The first launch leaves the ratings. -/
theorem ratings2 : V2 m ρ c main_v0 = V1 m ρ c main_v0 := W2_of m ρ c main_v0 (by decide)
/-- The first three launches leave the ratings. -/
theorem ratings4 : V4 m ρ c main_v0 = V1 m ρ c main_v0 :=
  (W4_of m ρ c main_v0 (by decide)).trans ((W3_of m ρ c main_v0 (by decide)).trans (ratings2 m ρ c))

/-- The second launch's user vectors. -/
theorem user_codes : V3 m ρ c main_v10_0 = K1.users (V1 m ρ c main_v0) (V1 m ρ c main_v1) (m ((c : Thread nD τ).loc main_arg6))
    (V1 m ρ c main_v4) (V1 m ρ c main_v2) := by
  refine (W3_arr m ρ c 10).trans ((K1.final_z (V2 m ρ) c).trans ?_)
  have e0 : V2 m ρ c main_v0 = V1 m ρ c main_v0 := ratings2 m ρ c
  have e1 : V2 m ρ c main_v1 = V1 m ρ c main_v1 := W2_of m ρ c main_v1 (by decide)
  have e2 : V2 m ρ c main_arg6 = m ((c : Thread nD τ).loc main_arg6) := W2_args m ρ c main_arg6 (by decide)
  have e3 : V2 m ρ c main_v4 = V1 m ρ c main_v4 := W2_of m ρ c main_v4 (by decide)
  have e4 : V2 m ρ c main_v2 = V1 m ρ c main_v2 := W2_of m ρ c main_v2 (by decide)
  rw [e0, e1, e2, e3, e4]

/-- The second launch's accumulated activations of the users. -/
theorem user_acts : V3 m ρ c main_v10_1 = K1.acts (V1 m ρ c main_v0)
    (K0.emb (m ((c : Thread nD τ).loc main_arg5)) (m ((c : Thread nD τ).loc main_arg8))) := by
  refine (W3_arr m ρ c 11).trans ((K1.final_a (V2 m ρ) c _ fun t h k l => embedded_at m ρ c t h k l).trans ?_)
  rw [ratings2]

/-- The third launch's user-side products. -/
theorem products : V4 m ρ c main_v11_0 = K2.prod (V3 m ρ c main_v10_1) (V1 m ρ c main_v5) (V1 m ρ c main_v3) := by
  refine (W4_arr m ρ c 4).trans ((K2.final_p (V3 m ρ) c).trans ?_)
  have e1 : V3 m ρ c main_v5 = V1 m ρ c main_v5 := (W3_of m ρ c main_v5 (by decide)).trans (W2_of m ρ c main_v5 (by decide))
  have e2 : V3 m ρ c main_v3 = V1 m ρ c main_v3 := (W3_of m ρ c main_v3 (by decide)).trans (W2_of m ρ c main_v3 (by decide))
  rw [e1, e2]

/-- The user vectors as the decoder reads them. -/
theorem user_rows : V5 m ρ c main_v11_1 = K2.swapped (V3 m ρ c main_v10_0) :=
  (W5_of m ρ c main_v11_1 (by decide)).trans ((W4_arr m ρ c 5).trans (K2.final_z (V3 m ρ) c))

/-- The item vectors as the decoder reads them. -/
theorem item_rows : V5 m ρ c main_v12 = K3.items (V1 m ρ c main_v0) (V4 m ρ c main_v11_0) := by
  refine (W5_arr m ρ c 6).trans ((K3.final_z (V4 m ρ) c).trans ?_)
  rw [ratings4]

/-- The decoder reads the users to look up as they were prepared. -/
theorem u5 : V5 m ρ c main_v6 = V1 m ρ c main_v6 :=
  (W5_of m ρ c main_v6 (by decide)).trans ((W4_of m ρ c main_v6 (by decide)).trans ((W3_of m ρ c main_v6 (by decide)).trans
    (W2_of m ρ c main_v6 (by decide))))
/-- The decoder reads the items to look up as they were prepared. -/
theorem v5 : V5 m ρ c main_v7 = V1 m ρ c main_v7 :=
  (W5_of m ρ c main_v7 (by decide)).trans ((W4_of m ρ c main_v7 (by decide)).trans ((W3_of m ρ c main_v7 (by decide)).trans
    (W2_of m ρ c main_v7 (by decide))))
/-- The decoder reads the labels as they were prepared. -/
theorem n5 : V5 m ρ c main_v8 = V1 m ρ c main_v8 :=
  (W5_of m ρ c main_v8 (by decide)).trans ((W4_of m ρ c main_v8 (by decide)).trans ((W3_of m ρ c main_v8 (by decide)).trans
    (W2_of m ρ c main_v8 (by decide))))

/-- The scores of the whole program. -/
def scoresV : FVec Ideal S1024x5 .f32 :=
  K4.table (V5 m ρ c main_v11_1) (V5 m ρ c main_v12) (V5 m ρ c main_v6) (V5 m ρ c main_v7) (V5 m ρ c main_v8) (V5 m ρ c main_arg12)

/-- The scores that the program returns. -/
theorem scores_out : W7 m ρ c (Proc.devRef .tc main_v13_0) = scoresV m ρ c :=
  (W7_of m ρ c main_v13_0 (by decide)).trans ((W6_arr m ρ c 6).trans (K4.final_scores (V5 m ρ) c))

/-- The labels as the decoder reads them. -/
theorem labels_eq : (fun b : Fin 1024 => (V5 m ρ c main_v8 : IVec S1024x1 32) (ix2 b 0))
    = fun b => m ((c : Thread nD τ).loc main_arg2) (ix1 b) :=
  funext fun b => (congrFun (n5 m ρ c) (ix2 b 0)).trans (n_at m ρ c b)

/-- The loss that the program returns. -/
theorem loss_out (i : S_.Idx) : W7 m ρ c (Proc.devRef .tc main_v14) i
    = Decode.loss (fun b => m ((c : Thread nD τ).loc main_arg2) (ix1 b)) fun b l => scoresV m ρ c (ix2 b l) := by
  have e : W6 m ρ c (Proc.devRef .tc main_v13_1) = _ := (W6_arr m ρ c 7).trans (K4.final_loss (V5 m ρ) c)
  show StableHlo.after hostOps5 (W6 m ρ c) main_v14 i = _
  entry_read
  rw [e]
  exact congrArg (fun n => Decode.loss n fun b l => scoresV m ρ c (ix2 b l)) (labels_eq m ρ c)

/-- The accuracy that the program returns, with any choice of a first largest score in every row. -/
theorem share_out (f : Fin 1024 → Fin 5) (hf : ∀ b, Decode.First (fun l => scoresV m ρ c (ix2 b l)) (f b)) (i : S_.Idx) :
    W7 m ρ c (Proc.devRef .tc main_v15) i
      = Decode.share (fun b => m ((c : Thread nD τ).loc main_arg2) (ix1 b)) fun b => BitVec.ofNat 32 (f b).val := by
  have e : W6 m ρ c (Proc.devRef .tc main_v13_2) = _ := (W6_arr m ρ c 8).trans (K4.final_share (V5 m ρ) c f hf)
  show StableHlo.after hostOps5 (W6 m ρ c) main_v15 i = _
  entry_read
  rw [e]
  exact congrArg (fun n => Decode.share n fun b => BitVec.ofNat 32 (f b).val) (labels_eq m ρ c)

end Cert.KernelIdeal.Chain
end
-- ==== Proof.Argmax.lean ====
/-
  The first place of a row's largest entry, as the reference's fold over pairs finds it.
-/
module

public import proofs.«01_k».proof.Proof.RefRun
public import proofs.«01_k».proof.Proof.Decode
public import Idealize.ShloMosaic.Lib.Pipeline.ValueKit
public import Idealize.ShloMosaic.PureOps.Ideal

@[expose] public section

set_option maxRecDepth 16384

noncomputable section

namespace Cert.RefRun

open Cert.ReferenceIdeal Cert.ReferenceIdeal.Gen
open Idealize.ShloMosaic Idealize.ShloMosaic.TcCoe Idealize.SL.Sem

/-- One (value, place) pair yields to another: a smaller value, or the same value at no earlier place. -/
def Yields (p q : EReal × BitVec 32) : Prop := p.1 < q.1 ∨ (p.1 = q.1 ∧ q.2.toInt ≤ p.2.toInt)

theorem Yields.refl (p : EReal × BitVec 32) : Yields p p := .inr ⟨rfl, le_rfl⟩

theorem Yields.trans {p q r : EReal × BitVec 32} (h : Yields p q) (g : Yields q r) : Yields p r := by
  rcases h with h | ⟨h, h'⟩ <;> rcases g with g | ⟨g, g'⟩
  · exact .inl (h.trans g)
  · exact .inl (g ▸ h)
  · exact .inl (h ▸ g)
  · exact .inr ⟨h.trans g, g'.trans h'⟩

/-- The reference's choice between two pairs is one of them, and both yield to it. -/
theorem choice (a b : EReal × BitVec 32) :
    (reducer_argmax_f32_i32 (F := Ideal) a b = a ∨ reducer_argmax_f32_i32 (F := Ideal) a b = b)
      ∧ Yields a (reducer_argmax_f32_i32 (F := Ideal) a b) ∧ Yields b (reducer_argmax_f32_i32 (F := Ideal) a b) := by
  obtain ⟨x, i⟩ := a
  obtain ⟨y, j⟩ := b
  rcases lt_trichotomy x y with h | h | h
  · have e : reducer_argmax_f32_i32 (F := Ideal) (x, i) (y, j) = (y, j) := by
      simp [reducer_argmax_f32_i32, Ideal.cmpf_def, Ideal.cmp, h, h.not_gt, h.ne, IntOp.ori, IntOp.andi, Scalar.select]
    rw [e]
    exact ⟨.inr rfl, .inl h, .refl _⟩
  · subst h
    have e : reducer_argmax_f32_i32 (F := Ideal) (x, i) (x, j) = (x, if i.toInt < j.toInt then i else j) := by
      by_cases hs : i.toInt < j.toInt <;>
        simp [reducer_argmax_f32_i32, Ideal.cmpf_def, Ideal.cmp, IntOp.ori, IntOp.andi, IntOp.cmpi, Scalar.select, BitVec.slt, hs]
    rw [e]
    by_cases hs : i.toInt < j.toInt
    · rw [if_pos hs]
      exact ⟨.inl rfl, .refl _, .inr ⟨rfl, hs.le⟩⟩
    · rw [if_neg hs]
      exact ⟨.inr rfl, .inr ⟨rfl, not_lt.1 hs⟩, .refl _⟩
  · have e : reducer_argmax_f32_i32 (F := Ideal) (x, i) (y, j) = (x, i) := by
      simp [reducer_argmax_f32_i32, Ideal.cmpf_def, Ideal.cmp, h, h.not_gt, h.ne', IntOp.ori, IntOp.andi, Scalar.select]
    rw [e]
    exact ⟨.inl rfl, .refl _, .inl h⟩

/-- A fold of choices over a list is a member of it, or the start, and all yield to it. -/
theorem fold_choice (L : List (EReal × BitVec 32)) (a : EReal × BitVec 32) :
    L.foldl (reducer_argmax_f32_i32 (F := Ideal)) a ∈ a :: L
      ∧ ∀ p ∈ a :: L, Yields p (L.foldl (reducer_argmax_f32_i32 (F := Ideal)) a) := by
  induction L generalizing a with
  | nil => exact ⟨List.mem_cons_self, fun p hp => by rw [List.mem_singleton.1 hp]; exact .refl _⟩
  | cons b L ih =>
    obtain ⟨hm, hy⟩ := ih (reducer_argmax_f32_i32 (F := Ideal) a b)
    obtain ⟨hc, ha, hb⟩ := choice a b
    have top := hy _ List.mem_cons_self
    refine ⟨?_, fun p hp => ?_⟩
    · rcases List.mem_cons.1 hm with h | h
      · rcases hc with e | e
        · exact List.mem_cons.2 (.inl (h.trans e))
        · exact List.mem_cons.2 (.inr (List.mem_cons.2 (.inl (h.trans e))))
      · exact List.mem_cons.2 (.inr (List.mem_cons.2 (.inr h)))
    · rcases List.mem_cons.1 hp with rfl | hp
      · exact ha.trans top
      · rcases List.mem_cons.1 hp with rfl | hp
        · exact hb.trans top
        · exact hy p (List.mem_cons.2 (.inr hp))

/-- A place of a row drops to the row's number. -/
theorem drop_eq (i : S1024x5.Idx) : reducesTo_S1024x5_S1024_d1.drop i = ix1 (i 0) := by
  funext a
  match a with
  | ⟨0, _⟩ => rfl

/-- The pairs of a row. -/
theorem mem_row (s : FVec Ideal S1024x5 .f32) (b : Fin 1024) (p : EReal × BitVec 32) :
    p ∈ Host.argReduceFiber s (iotaInDim S1024x5 32 1) reducesTo_S1024x5_S1024_d1 (ix1 b)
      ↔ ∃ l : Fin 5, p = (s (ix2 b l), BitVec.ofNat 32 l.val) := by
  simp only [Host.argReduceFiber, List.mem_map, List.mem_filter, List.mem_finRange, true_and, decide_eq_true_eq]
  constructor
  · rintro ⟨n, hn, rfl⟩
    generalize S1024x5.rowMajor.symm n = i at hn
    have hb : i 0 = b := congrFun ((drop_eq i).symm.trans hn) 0
    have e : i = ix2 b (i 1) := (eq_ix2 i).trans (congrArg (fun x => ix2 x (i 1)) hb)
    exact ⟨i 1, Prod.ext (congrArg s e) rfl⟩
  · rintro ⟨l, rfl⟩
    exact ⟨S1024x5.rowMajor (ix2 b l), by rw [Equiv.symm_apply_apply]; exact drop_eq (ix2 b l), by rw [Equiv.symm_apply_apply]; rfl⟩

/-- The reference's best class of a row: the first at which the row is largest. -/
theorem best_at (s : FVec Ideal S1024x5 .f32) (b : Fin 1024) : ∃ l : Fin 5, best s (ix1 b) = BitVec.ofNat 32 l.val
    ∧ Decode.First (fun k => s (ix2 b k)) l := by
  unfold best
  rw [Ideal.argReduce_eq_reduce2, Host.reduce2_eq_foldl_fiber]
  have hbot : (constant S_ .f32 0xFF800000#32 : FVec Ideal S_ .f32) (Shape.Idx.first h_S_) = (⊥ : EReal) := by
    pointwise []
    exact Decode.lowest
  rw [hbot]
  obtain ⟨hm, hy⟩ := fold_choice (Host.argReduceFiber s (iotaInDim S1024x5 32 1) reducesTo_S1024x5_S1024_d1 (ix1 b))
    ((⊥ : EReal), constantI S_ 32 0#32 (Shape.Idx.first h_S_))
  generalize List.foldl _ _ _ = r at hm hy ⊢
  have small : ∀ k : Fin 5, (BitVec.ofNat 32 k.val).toInt = k.val := by decide
  have key : ∃ l : Fin 5, r = (s (ix2 b l), BitVec.ofNat 32 l.val) := by
    rcases List.mem_cons.1 hm with h | h
    · refine ⟨0, ?_⟩
      rcases hy _ (List.mem_cons.2 (.inr ((mem_row s b _).2 ⟨0, rfl⟩))) with g | ⟨g, -⟩
      · rw [h] at g
        exact absurd g not_lt_bot
      · rw [h] at g ⊢
        exact Prod.ext g.symm rfl
    · exact (mem_row s b r).1 h
  obtain ⟨l, rfl⟩ := key
  refine ⟨l, rfl, fun k => ?_⟩
  rcases hy _ (List.mem_cons.2 (.inr ((mem_row s b _).2 ⟨k, rfl⟩))) with g | ⟨g, g'⟩
  · exact .inl g
  · refine .inr ⟨g, ?_⟩
    rw [small, small] at g'
    exact Int.ofNat_le.1 g'

end Cert.RefRun
end
-- ==== Proof.RefAt.lean ====
/-
  The reference's stages at an index: sums, lookups and the row functions of the loss and the accuracy.
-/
module

public import proofs.«01_k».proof.Proof.Argmax
public import Idealize.ShloMosaic.Lib.Routing.Ops
public import Idealize.ShloMosaic.Lib.ReduceAll
public import Idealize.ShloMosaic.Lib.WordCmp
public import Idealize.ShloMosaic.Lib.Pipeline.ValueKit
public import Idealize.ShloMosaic.PureOps.Ideal

@[expose] public section

set_option maxRecDepth 16384

noncomputable section

namespace Cert.RefRun

open Cert.ReferenceIdeal Cert.ReferenceIdeal.Gen
open Idealize.ShloMosaic Idealize.ShloMosaic.TcCoe Idealize.SL.Sem

theorem hItems_at (r : FVec Ideal S5x10000x1000 .f32) (e : FVec Ideal S10000x128 .f32) (w : FVec Ideal S5x128x64 .f32)
    (b : FVec Ideal S64 .f32) (v : Fin 1000) (h : Fin 64) : hItems r e w b (ix2 v h)
      = max ((∑ c : Fin 5, ∑ d : Fin 128, (∑ u : Fin 10000, r (ix3 c u v) * e (ix2 u d)) * w (ix3 c d h)) + b (ix1 h)) 0 := by
  pointwise [hItems]

theorem hUsers_at (r : FVec Ideal S5x10000x1000 .f32) (e : FVec Ideal S1000x128 .f32) (w : FVec Ideal S5x128x64 .f32)
    (b : FVec Ideal S64 .f32) (u : Fin 10000) (h : Fin 64) : hUsers r e w b (ix2 u h)
      = max ((∑ c : Fin 5, ∑ d : Fin 128, (∑ v : Fin 1000, r (ix3 c u v) * e (ix2 v d)) * w (ix3 c d h)) + b (ix1 h)) 0 := by
  pointwise [hUsers]

theorem zUsers_at (r : FVec Ideal S5x10000x1000 .f32) (w : FVec Ideal S5x64x32 .f32) (h : FVec Ideal S1000x64 .f32)
    (u : Fin 10000) (k : Fin 32) : zUsers r w h (ix2 u k)
      = ∑ c : Fin 5, ∑ v : Fin 1000, r (ix3 c u v) * ∑ j : Fin 64, w (ix3 c j k) * h (ix2 v j) := by
  pointwise [zUsers]

theorem zItems_at (r : FVec Ideal S5x10000x1000 .f32) (w : FVec Ideal S5x64x32 .f32) (h : FVec Ideal S10000x64 .f32)
    (v : Fin 1000) (k : Fin 32) : zItems r w h (ix2 v k)
      = ∑ c : Fin 5, ∑ u : Fin 10000, r (ix3 c u v) * ∑ j : Fin 64, w (ix3 c j k) * h (ix2 u j) := by
  pointwise [zItems]

theorem scores_at (q : FVec Ideal S5x32x32 .f32) (zu zv : FVec Ideal S1024x32 .f32) (b : Fin 1024) (l : Fin 5) :
    scores q zu zv (ix2 b l) = ∑ j : Fin 32, zv (ix2 b j) * ∑ i : Fin 32, q (ix3 l i j) * zu (ix2 b i) := by
  pointwise [scores]

/-- A row number below the number of rows is read as it is. -/
theorem rowNo_at (k : BitVec 32) (u : IVec S1024 32) (b : Fin 1024) (n : ℕ) (hn : n < 2 ^ 31) (h : u (ix1 b) = BitVec.ofNat 32 n) :
    rowNo k u (ix2 b 0) = BitVec.ofNat 32 n := by
  pointwise [rowNo]
  rw [h, Scalar.select, if_neg]
  show ¬BitVec.ofBool ((BitVec.ofNat 32 n).slt 0#32) = 1#1
  have : (BitVec.ofNat 32 n).slt 0#32 = false := by
    rw [BitVec.slt_eq_decide, decide_eq_false_iff_not, Idealize.ShloMosaic.WordCmp.toInt_ofNat_of_lt (w := 32) hn]
    simp
  rw [this]
  decide

/-- A row number in range is accepted. -/
theorem rowOk_at (k : ℕ) (hk : k < 2 ^ 31) (i : IVec S1024x1 32) (b : Fin 1024) (n : ℕ) (hn : n ≤ k) (h : i (ix2 b 0) = BitVec.ofNat 32 n) :
    rowOk (BitVec.ofNat 32 k) i (ix1 b) = 1#1 := by
  have h1 : IntOp.cmpi .sge (BitVec.ofNat 32 n) 0#32 = 1#1 := by
    rw [IntOp.cmpi_sge, Idealize.ShloMosaic.WordCmp.toInt_ofNat_of_lt (w := 32) (a := n) (by omega)]
    exact Int.natCast_nonneg n
  have h2 : IntOp.cmpi .sle (BitVec.ofNat 32 n) (BitVec.ofNat 32 k) = 1#1 := by
    rw [IntOp.cmpi_sle, Idealize.ShloMosaic.WordCmp.toInt_ofNat_of_lt (w := 32) (by omega), Idealize.ShloMosaic.WordCmp.toInt_ofNat_of_lt (w := 32) (by omega)]
    omega
  pointwise [rowOk]
  have e (x : Fin 1) : i (ix2 b x) = BitVec.ofNat 32 n := Subsingleton.elim x 0 ▸ h
  simp only [e, h1, h2]
  decide

/-- The looked-up user's code. -/
theorem takeUsers_at (z : FVec Ideal S10000x32 .f32) (u : IVec S1024 32) (b : Fin 1024) (k : Fin 32) (n : ℕ) (hn : n < 10000)
    (h : u (ix1 b) = BitVec.ofNat 32 n) : takeUsers z u (ix2 b k) = z (ix2 ⟨n, hn⟩ k) := by
  have hr := rowNo_at 10000#32 u b n (by omega) h
  have ho := rowOk_at 9999 (by omega) _ b n (by omega) hr
  unfold takeUsers
  generalize rowNo 10000#32 u = i at hr ho ⊢
  generalize hO : rowOk 9999#32 i = o
  have ho' : o (ix1 b) = 1#1 := hO ▸ ho
  pointwise []
  rw [ho', Scalar.select, if_pos (show (1#1 : BitVec 1) = 1 from rfl)]
  exact Routing.gather_row _ rfl rfl rfl rfl rfl z i b k ⟨n, hn⟩ hr (by omega)

/-- The looked-up item's code. -/
theorem takeItems_at (z : FVec Ideal S1000x32 .f32) (v : IVec S1024 32) (b : Fin 1024) (k : Fin 32) (n : ℕ) (hn : n < 1000)
    (h : v (ix1 b) = BitVec.ofNat 32 n) : takeItems z v (ix2 b k) = z (ix2 ⟨n, hn⟩ k) := by
  have hr := rowNo_at 1000#32 v b n (by omega) h
  have ho := rowOk_at 999 (by omega) _ b n (by omega) hr
  unfold takeItems
  generalize rowNo 1000#32 v = i at hr ho ⊢
  generalize hO : rowOk 999#32 i = o
  have ho' : o (ix1 b) = 1#1 := hO ▸ ho
  pointwise []
  rw [ho', Scalar.select, if_pos (show (1#1 : BitVec 1) = 1 from rfl)]
  exact Routing.gather_row _ rfl rfl rfl rfl rfl z i b k ⟨n, hn⟩ hr (by omega)

theorem loss_at (n : IVec S1024 32) (s : FVec Ideal S1024x5 .f32) (i : S_.Idx) :
    loss n s i = Decode.loss (fun b => n (ix1 b)) fun b l => s (ix2 b l) := by
  rw [show i = ix0 from Subsingleton.elim _ _]
  pointwise [loss, labels, centred, logSoftmax]
  simp only [Decode.uitofp_hot, Decode.lowest, bot_le, max_eq_right]
  rfl

theorem accuracy_at (n : IVec S1024 32) (s : FVec Ideal S1024x5 .f32) (i : S_.Idx) :
    accuracy n s i = Decode.share (fun b => n (ix1 b)) fun b => best s (ix1 b) := by
  rw [show i = ix0 from Subsingleton.elim _ _]
  pointwise [accuracy]
  simp only [Decode.uitofp_hot]
  rfl

end Cert.RefRun
end
-- ==== Proof.Finite.lean ====
/-
  Sums of products of finite extended reals: two orders of multiplying through a pair of matrices agree.
-/
module

public import Mathlib.Data.EReal.Operations
public import Mathlib.Algebra.BigOperators.Ring.Finset
public import Mathlib.Algebra.BigOperators.Group.Finset.Sigma
public import Mathlib.Tactic.Ring

@[expose] public section

noncomputable section

namespace Cert

/-- A finite number of the extended reals. -/
def Finite (x : EReal) : Prop := x ≠ ⊤ ∧ x ≠ ⊥

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- Finite rows `x`, `e`, `w`: first `e` through `w` and then against `x`, or first `x` against `e` and then through `w`. -/
theorem sums_swap {p q : ℕ} (x : Fin p → EReal) (e : Fin p → Fin q → EReal) (w : Fin q → EReal)
    (hx : ∀ v, Finite (x v)) (he : ∀ v d, Finite (e v d)) (hw : ∀ d, Finite (w d)) :
    ∑ v, (∑ d, e v d * w d) * x v = ∑ d, (∑ v, x v * e v d) * w d := by
  have ex : x = fun v => ((x v).toReal : EReal) := funext fun v => (EReal.coe_toReal (hx v).1 (hx v).2).symm
  have ee : e = fun v d => ((e v d).toReal : EReal) := funext fun v => funext fun d => (EReal.coe_toReal (he v d).1 (he v d).2).symm
  have ew : w = fun d => ((w d).toReal : EReal) := funext fun d => (EReal.coe_toReal (hw d).1 (hw d).2).symm
  rw [ex, ee, ew]
  simp only [← EReal.coe_mul, ← coe_sum]
  congr 1
  simp only [Finset.sum_mul]
  rw [Finset.sum_comm]
  exact Finset.sum_congr rfl fun d _ => Finset.sum_congr rfl fun v _ => by ring

end Cert
end
-- ==== Proof.Equation.lean ====
/-
  The kernel's scores are the reference's.  Most of it is the order of two factors.  The users' hidden layer is not: there
  the kernel sends the item embeddings through the weights before it weighs them by the ratings.
-/
module

public import proofs.«01_k».proof.Proof.Chain
public import proofs.«01_k».proof.Proof.RefAt
public import proofs.«01_k».proof.Proof.Finite

@[expose] public section

set_option maxRecDepth 16384

noncomputable section

namespace Cert.Equation

open Cert.KernelIdeal Cert.KernelIdeal.Gen
open Idealize.ShloMosaic Idealize.ShloMosaic.TcCoe Idealize.SL.Sem

section arrays

variable (r : FVec Ideal S5x10000x1000 .f32) (rT : FVec Ideal S5x1000x10000 .f32)
  (hr : ∀ (k : Fin 5) (v : Fin 1000) (u : Fin 10000), rT (ix3 k v u) = r (ix3 k u v))
include hr

/-- The user vectors of the two programs. -/
theorem users_eq (e : FVec Ideal S10000x128 .f32) (e' : FVec Ideal S10000x128 .bf16) (w : FVec Ideal S5x128x64 .f32)
    (b : FVec Ideal S64 .f32) (b' : FVec Ideal S1x64 .f32) (w2 : FVec Ideal S5x64x32 .f32) (w2' : FVec Ideal S5x32x64 .f32)
    (he : ∀ i, (e' i : EReal) = e i) (hb : ∀ h : Fin 64, b' (ix2 0 h) = b (ix1 h))
    (h2 : ∀ (k : Fin 5) (j : Fin 32) (h : Fin 64), w2' (ix3 k j h) = w2 (ix3 k h j)) (u : Fin 10000) (k : Fin 32) :
    K1.users rT e' w b' w2' (ix2 k u) = RefRun.zUsers r w2 (RefRun.hItems r e w b) (ix2 u k) := by
  rw [RefRun.zUsers_at]
  show (∑ c : Fin 5, ∑ v : Fin 1000, (∑ h : Fin 64, w2' (ix3 c k h)
    * max ((∑ c : Fin 5, ∑ d : Fin 128, (∑ u : Fin 10000, rT (ix3 c v u) * e' (ix2 u d)) * w (ix3 c d h)) + b' (ix2 0 h)) 0)
    * rT (ix3 c v u) : EReal) = _
  refine Finset.sum_congr rfl fun c _ => Finset.sum_congr rfl fun v _ => ?_
  rw [hr, mul_comm]
  refine congrArg (fun x : EReal => r (ix3 c u v) * x) (Finset.sum_congr rfl fun h _ => ?_)
  rw [h2, RefRun.hItems_at, hb]
  simp only [hr, he]

/-- The item vectors of the two programs. -/
theorem items_eq (hR : ∀ i, Finite (r i)) (e : FVec Ideal S1000x128 .f32) (hE : ∀ i, Finite (e i)) (w : FVec Ideal S5x128x64 .f32)
    (hW : ∀ i, Finite (w i)) (b : FVec Ideal S64 .f32) (b' : FVec Ideal S64x1 .f32) (w2 : FVec Ideal S5x64x32 .f32)
    (w2' : FVec Ideal S5x32x64 .f32) (hb : ∀ h : Fin 64, b' (ix2 h 0) = b (ix1 h))
    (h2 : ∀ (k : Fin 5) (j : Fin 32) (h : Fin 64), w2' (ix3 k j h) = w2 (ix3 k h j)) (v : Fin 1000) (k : Fin 32) :
    K3.items rT (K2.prod (K1.acts rT (K0.emb e w)) b' w2') (ix2 v k)
      = RefRun.zItems r w2 (RefRun.hUsers r e w b) (ix2 v k) := by
  rw [RefRun.zItems_at]
  show (∑ c : Fin 5, ∑ u : Fin 10000, rT (ix3 c v u) * ∑ h : Fin 64, w2' (ix3 c k h)
    * max ((∑ c : Fin 5, ∑ v : Fin 1000, (∑ d : Fin 128, e (ix2 v d) * w (ix3 c d h)) * rT (ix3 c v u)) + b' (ix2 h 0)) 0 : EReal) = _
  refine Finset.sum_congr rfl fun c _ => Finset.sum_congr rfl fun u _ => ?_
  rw [hr]
  refine congrArg (fun x : EReal => r (ix3 c u v) * x) (Finset.sum_congr rfl fun h _ => ?_)
  rw [h2, RefRun.hUsers_at, hb]
  simp only [hr]
  refine congrArg (fun x : EReal => w2 (ix3 c h k) * max (x + b (ix1 h)) 0) (Finset.sum_congr rfl fun c _ => ?_)
  exact sums_swap (fun v => r (ix3 c u v)) (fun v d => e (ix2 v d)) (fun d => w (ix3 c d h)) (fun _ => hR _) (fun _ _ => hE _) fun _ => hW _

end arrays

variable (m : (ℓ : Loc nD τ sig) → Buf (Elt Ideal) ℓ) (ρ : Dev nD → PrngReg) (c : Dev nD)

/-- The reference's scores of the same arguments. -/
def refScores : FVec Ideal S1024x5 .f32 :=
  RefRun.scores (m ((c : Thread nD τ).loc main_arg12))
    (RefRun.takeUsers (RefRun.zUsers (m ((c : Thread nD τ).loc main_arg3)) (m ((c : Thread nD τ).loc main_arg10))
      (RefRun.hItems (m ((c : Thread nD τ).loc main_arg3)) (m ((c : Thread nD τ).loc main_arg4)) (m ((c : Thread nD τ).loc main_arg6))
        (m ((c : Thread nD τ).loc main_arg7)))) (m ((c : Thread nD τ).loc main_arg0)))
    (RefRun.takeItems (RefRun.zItems (m ((c : Thread nD τ).loc main_arg3)) (m ((c : Thread nD τ).loc main_arg11))
      (RefRun.hUsers (m ((c : Thread nD τ).loc main_arg3)) (m ((c : Thread nD τ).loc main_arg5)) (m ((c : Thread nD τ).loc main_arg8))
        (m ((c : Thread nD τ).loc main_arg9)))) (m ((c : Thread nD τ).loc main_arg1)))

/-- Row numbers in range and three finite arrays give equal scores. -/
theorem scores_eq
    (hu : ∀ b : Fin 1024, ∃ n, n < 10000 ∧ m ((c : Thread nD τ).loc main_arg0) (ix1 b) = BitVec.ofNat 32 n)
    (hv : ∀ b : Fin 1024, ∃ n, n < 1000 ∧ m ((c : Thread nD τ).loc main_arg1) (ix1 b) = BitVec.ofNat 32 n)
    (hR : ∀ i : S5x10000x1000.Idx, Finite (m ((c : Thread nD τ).loc main_arg3) i))
    (hE : ∀ i : S1000x128.Idx, Finite (m ((c : Thread nD τ).loc main_arg5) i))
    (hW : ∀ i : S5x128x64.Idx, Finite (m ((c : Thread nD τ).loc main_arg8) i)) :
    Chain.scoresV m ρ c = refScores m c := by
  have key (b : Fin 1024) (l : Fin 5) : Chain.scoresV m ρ c (ix2 b l) = refScores m c (ix2 b l) := by
    obtain ⟨n, hn, en⟩ := hu b
    obtain ⟨k, hk, ek⟩ := hv b
    unfold Chain.scoresV refScores
    rw [K4.table_at, RefRun.scores_at]
    refine Finset.sum_congr rfl fun j _ => ?_
    rw [mul_comm]
    refine congrArg₂ (fun x y : EReal => x * y) ?_ (Finset.sum_congr rfl fun i _ => ?_)
    · refine (K4.item_at _ _ _ _ _ _ b j k hk ((congrFun (Chain.v5 m ρ c) (ix2 b 0)).trans ((Chain.v_at m ρ c b).trans ek))).trans ?_
      rw [RefRun.takeItems_at _ _ b j k hk ek, Chain.item_rows, Chain.products, Chain.user_acts]
      exact items_eq _ _ (Chain.ratings_at m ρ c) hR _ hE _ hW _ _ _ _ (Chain.bias_v_at m ρ c) (Chain.second_v_at m ρ c) _ _
    · rw [mul_comm]
      refine congrArg₂ (fun x y : EReal => x * y) (congrFun (W5_args m ρ c main_arg12 (by decide)) _) ?_
      refine (K4.user_at _ _ _ _ _ _ b i n hn ((congrFun (Chain.u5 m ρ c) (ix2 b 0)).trans ((Chain.u_at m ρ c b).trans en))).trans ?_
      rw [RefRun.takeUsers_at _ _ b i n hn en, Chain.user_rows]
      show V3 m ρ c main_v10_0 (ix2 i ⟨n, hn⟩) = _
      rw [Chain.user_codes]
      exact users_eq _ _ (Chain.ratings_at m ρ c) _ _ _ _ _ _ _ (Chain.users_at m ρ c) (Chain.bias_u_at m ρ c) (Chain.second_u_at m ρ c) _ _
  funext i
  rw [eq_ix2 i]
  exact key _ _

end Cert.Equation
end
-- ==== Proof.Pre.lean ====
/-
  What the precondition says of the arguments: the row numbers are in range, and three arrays are finite.
-/
module

public import proofs.«01_k».proof.Pre_indices_in_range_and_finite
public import proofs.«01_k».proof.Proof.Finite
public import Idealize.ShloMosaic.Lib.ReduceAll
public import Idealize.ShloMosaic.Lib.Affine
public import Idealize.ShloMosaic.Lib.WordCmp
public import Idealize.ShloMosaic.Lib.Pipeline.ValueKit
public import Idealize.ShloMosaic.PureOps.Ideal

@[expose] public section

set_option maxRecDepth 16384

noncomputable section

namespace Cert.Pre_indices_in_range_and_finite

open Idealize.ShloMosaic

/-- The side conditions the predicate states. -/
instance facts : Facts := ⟨by decide, by decide, by decide, by decide, by decide, by decide, by decide, by decide, by decide⟩

/-- The pattern of plus infinity. -/
theorem top_bits : FloatOps.ofBits (F := Ideal) .f32 0x7F800000#32 = (⊤ : EReal) := by
  simp [FloatOps.ofBits, Ideal.ofBits, Ideal.ieee]

/-- A number whose absolute value is below infinity is finite. -/
theorem finite_of {x : EReal} (h : FloatOps.cmpf (F := Ideal) (φ := .f32) .olt (FloatOps.absf x) (FloatOps.ofBits .f32 0x7F800000#32) = 1#1) :
    Finite x := by
  rw [Ideal.cmpf_def, Ideal.absf_def, top_bits] at h
  have h' : max x (-x) < ⊤ := by
    by_contra hn
    simp [Ideal.cmp, hn] at h
  constructor
  · rintro rfl
    simp at h'
  · rintro rfl
    simp at h'

/-- A word that is at least zero and below `k` is the number of a row. -/
theorem row_of {x : BitVec 32} {k : ℕ} (hk : k < 2 ^ 31)
    (h : IntOp.andi (IntOp.cmpi .sge x 0#32) (IntOp.cmpi .slt x (BitVec.ofNat 32 k)) = 1#1) : ∃ n, n < k ∧ x = BitVec.ofNat 32 n := by
  obtain ⟨h0, h1⟩ := IntOp.andi_eq_one.1 h
  rw [IntOp.cmpi_sge] at h0
  rw [IntOp.cmpi_slt, Idealize.ShloMosaic.WordCmp.toInt_ofNat_of_lt (w := 32) (a := k) hk] at h1
  have h2 : (0 : ℤ) ≤ x.toInt := h0
  have e := BitVec.toInt_eq_toNat_cond x
  have hx := x.isLt
  refine ⟨x.toNat, ?_, (BitVec.ofNat_toNat 32 x ▸ by simp)⟩
  split at e <;> omega

instance : Subsingleton S_.Idx := ⟨fun a b => funext fun i => i.elim0⟩

/-- The precondition, read back. -/
theorem split (a0 a1 a2 : IVec S1024 32) (a3 : FVec Ideal S5x10000x1000 .f32) (a4 : FVec Ideal S10000x128 .f32)
    (a5 : FVec Ideal S1000x128 .f32) (a6 : FVec Ideal S5x128x64 .f32) (a7 : FVec Ideal S64 .f32) (a8 : FVec Ideal S5x128x64 .f32)
    (a9 : FVec Ideal S64 .f32) (a10 a11 : FVec Ideal S5x64x32 .f32) (a12 : FVec Ideal S5x32x32 .f32)
    (h : fn (F := Ideal) a0 a1 a2 a3 a4 a5 a6 a7 a8 a9 a10 a11 a12 ix0 = 1#1) :
    (∀ b, ∃ n, n < 10000 ∧ a0 (ix1 b) = BitVec.ofNat 32 n) ∧ (∀ b, ∃ n, n < 1000 ∧ a1 (ix1 b) = BitVec.ofNat 32 n)
      ∧ (∀ i, Finite (a3 i)) ∧ (∀ i, Finite (a5 i)) ∧ ∀ i, Finite (a8 i) := by
  unfold fn fn_part1 at h
  dsimp only [] at h
  obtain ⟨h, h8⟩ := IntOp.andi_eq_one.1 h
  obtain ⟨h, h5⟩ := IntOp.andi_eq_one.1 h
  obtain ⟨h, h3⟩ := IntOp.andi_eq_one.1 h
  obtain ⟨h0, h1⟩ := IntOp.andi_eq_one.1 h
  exact ⟨fun b => row_of (by decide) (Host.reduce_andi_all _ _ _ _ ix0 h0 (ix1 b)),
    fun b => row_of (by decide) (Host.reduce_andi_all _ _ _ _ ix0 h1 (ix1 b)),
    fun i => finite_of (Host.reduce_andi_all _ _ _ _ ix0 h3 i),
    fun i => finite_of (Host.reduce_andi_all _ _ _ _ ix0 h5 i),
    fun i => finite_of (Host.reduce_andi_all _ _ _ _ ix0 h8 i)⟩

end Cert.Pre_indices_in_range_and_finite
end
-- ==== Proof.Values.lean ====
/-
  The value claim: under the precondition both programs end with the same scores, loss and accuracy.
-/
module

public import proofs.«01_k».proof.Defs
public import proofs.«01_k».proof.Proof.KRun
public import proofs.«01_k».proof.Proof.RefRun
public import proofs.«01_k».proof.Proof.Equation
public import proofs.«01_k».proof.Proof.Pre

@[expose] public section

set_option maxRecDepth 16384

noncomputable section

namespace Cert.Values

open Cert.KernelIdeal Cert.KernelIdeal.Gen
open Idealize.ShloMosaic Idealize.ShloMosaic.TcCoe Idealize.SL.Sem

variable (m : (ℓ : Loc nD τ sig) → Buf (Elt Ideal) ℓ) (ρ : Dev nD → PrngReg) (c : Dev nD)

/-- The reference's loss of the same arguments. -/
def refLoss : FVec Ideal S_ .f32 := RefRun.loss (m ((c : Thread nD τ).loc main_arg2)) (Equation.refScores m c)

/-- The reference's accuracy of the same arguments. -/
def refAccuracy : FVec Ideal S_ .f32 := RefRun.accuracy (m ((c : Thread nD τ).loc main_arg2)) (Equation.refScores m c)

theorem scores_value (h : Chain.scoresV m ρ c = Equation.refScores m c) : W7 m ρ c main_v13_0 = Equation.refScores m c :=
  (Chain.scores_out m ρ c).trans h

theorem loss_value (h : Chain.scoresV m ρ c = Equation.refScores m c) : W7 m ρ c main_v14 = refLoss m c := by
  funext i
  refine (Chain.loss_out m ρ c i).trans (Eq.trans ?_ (RefRun.loss_at _ _ i).symm)
  rw [h]

/-- The reference's best class of a row is the first of the largest scores; so is the kernel's. -/
theorem accuracy_value (h : Chain.scoresV m ρ c = Equation.refScores m c) : W7 m ρ c main_v15 = refAccuracy m c := by
  funext i
  have best := RefRun.best_at (Equation.refScores m c)
  choose f hf using best
  refine (Chain.share_out m ρ c f (fun b => by rw [h]; exact (hf b).2) i).trans (Eq.trans ?_ (RefRun.accuracy_at _ _ i).symm)
  exact congrArg (Decode.share _) (funext fun b => (hf b).1.symm)

/-- The precondition at one device gives the scores' equation. -/
theorem scores_eq (hp : Cert.Pre_indices_in_range_and_finite.fn (F := Ideal)
      (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5))
      (m ((c : Thread nD τ).loc main_arg6)) (m ((c : Thread nD τ).loc main_arg7)) (m ((c : Thread nD τ).loc main_arg8))
      (m ((c : Thread nD τ).loc main_arg9)) (m ((c : Thread nD τ).loc main_arg10)) (m ((c : Thread nD τ).loc main_arg11))
      (m ((c : Thread nD τ).loc main_arg12)) = fun _ => 1#1) : Chain.scoresV m ρ c = Equation.refScores m c := by
  obtain ⟨hu, hv, hR, hE, hW⟩ := Cert.Pre_indices_in_range_and_finite.split _ _ _ _ _ _ _ _ _ _ _ _ _ (congrFun hp ix0)
  exact Equation.scores_eq m ρ c hu hv hR hE hW

end Cert.Values
end
-- ==== Proof.lean ====
/-
  The certificate's claims, assembled: the frames of the three programs, and the equation of the kernel's scores, loss and
  accuracy with the reference's.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Values
public import Idealize.ShloMosaic.Lib.Claim
public import Idealize.ShloMosaic.Adequacy
public import Idealize.ShloMosaic.Init

@[expose] public section

noncomputable section

namespace Cert.Proof

open Idealize.ShloMosaic Idealize.ShloMosaic.TcCoe Idealize.SL.Sem

/-- The reference's arguments end unchanged and no semaphore holds a count. -/
theorem reference_frame : quiescent_ReferenceIdeal (hReferenceIdeal := Cert.ReferenceIdeal.Gen.facts) := fun m ρ _ =>
  (θ_run Cert.ReferenceIdeal.defs _ _).mono (fun r h => ⟨fun c => (h c).2.2.2, sem_eq_zero_of_no_sems (by decide) r.2⟩)
    (Cert.RefRun.run m ρ)

/-- Both programs, from the same arguments, end with the reference's scores, loss and accuracy. -/
theorem values : algebraic_KernelIdeal_ReferenceIdeal_pre_indices_in_range_and_finite (hKernelIdeal := Cert.KernelIdeal.Gen.facts)
    (hReferenceIdeal := Cert.ReferenceIdeal.Gen.facts)
    (hPre_indices_in_range_and_finite := Cert.Pre_indices_in_range_and_finite.facts) := by
  intro m g m' g' hpre hagree
  have hs (c) := Cert.Values.scores_eq m g c (hpre c)
  refine ⟨fun c => Cert.Equation.refScores m c, fun c => Cert.Values.refLoss m c, fun c => Cert.Values.refAccuracy m c, ?_, ?_⟩
  · refine (θ_run Cert.KernelIdeal.defs _ _).mono (fun r h c => ?_) (Cert.KernelIdeal.KRun.run m g)
    have hv := fun b hb => h.1 c _ (Cert.KernelIdeal.Gen.mem_uc b hb)
    exact ⟨(hv _ (by decide)).trans (Cert.Values.scores_value m g c (hs c)),
      (hv _ (by decide)).trans (Cert.Values.loss_value m g c (hs c)),
      (hv _ (by decide)).trans (Cert.Values.accuracy_value m g c (hs c)),
      (hv _ (by decide)).trans (Cert.KernelIdeal.Gen.W7_main_arg0 m g c),
      (hv _ (by decide)).trans (Cert.KernelIdeal.Gen.W7_main_arg1 m g c),
      (hv _ (by decide)).trans (Cert.KernelIdeal.Gen.W7_main_arg2 m g c),
      (hv _ (by decide)).trans (Cert.KernelIdeal.Gen.W7_main_arg3 m g c),
      (hv _ (by decide)).trans (Cert.KernelIdeal.Gen.W7_main_arg4 m g c),
      (hv _ (by decide)).trans (Cert.KernelIdeal.Gen.W7_main_arg5 m g c),
      (hv _ (by decide)).trans (Cert.KernelIdeal.Gen.W7_main_arg6 m g c),
      (hv _ (by decide)).trans (Cert.KernelIdeal.Gen.W7_main_arg7 m g c),
      (hv _ (by decide)).trans (Cert.KernelIdeal.Gen.W7_main_arg8 m g c),
      (hv _ (by decide)).trans (Cert.KernelIdeal.Gen.W7_main_arg9 m g c),
      (hv _ (by decide)).trans (Cert.KernelIdeal.Gen.W7_main_arg10 m g c),
      (hv _ (by decide)).trans (Cert.KernelIdeal.Gen.W7_main_arg11 m g c),
      (hv _ (by decide)).trans (Cert.KernelIdeal.Gen.W7_main_arg12 m g c)⟩
  · refine (θ_run Cert.ReferenceIdeal.defs _ _).mono (fun r h c => ?_) (Cert.RefRun.run m' g')
    obtain ⟨h0, h1, h2, hargs⟩ := h c
    obtain ⟨a0, a1, a2, a3, a4, a5, a6, a7, a8, a9, a10, a11, a12⟩ := hagree c
    have e : Cert.RefRun.outScores m' c = Cert.Equation.refScores m c := by
      unfold Cert.RefRun.outScores Cert.Equation.refScores
      rw [a0, a1, a3, a4, a5, a6, a7, a8, a9, a10, a11, a12]
    rw [e] at h0 h1 h2
    rw [a2] at h1 h2
    exact ⟨h0, h1, h2, hargs⟩

/-- Every claim of the certificate. -/
theorem claim : Cert.Claim :=
  ⟨Cert.Kernel.Gen.facts, Cert.KernelIdeal.Gen.facts, Cert.ReferenceIdeal.Gen.facts, Cert.Pre_indices_in_range_and_finite.facts,
    fun m ρ _ => Cert.Kernel.Gen.frame m ρ, fun m ρ _ => Cert.KernelIdeal.Gen.frame m ρ, fun m ρ _ => Cert.KernelIdeal.Gen.frame m ρ,
    reference_frame, fun m ρ _ => reference_frame m ρ trivial, trivial, values⟩

end Cert.Proof

end
